-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S256x1024x4 : Shape := ⟨3, ![256, 1024, 4]⟩
abbrev S256x1024 : Shape := ⟨2, ![256, 1024]⟩
abbrev S1024x4x128 : Shape := ⟨3, ![1024, 4, 128]⟩
abbrev S4x1024x128 : Shape := ⟨3, ![4, 1024, 128]⟩
abbrev S9x64x1024 : Shape := ⟨3, ![9, 64, 1024]⟩
abbrev S8x64x1024 : Shape := ⟨3, ![8, 64, 1024]⟩
abbrev S2 : Shape := ⟨1, ![2]⟩
abbrev S_ : Shape := ⟨0, ![]⟩
abbrev S64x1024 : Shape := ⟨2, ![64, 1024]⟩
abbrev S1x64x1024 : Shape := ⟨3, ![1, 64, 1024]⟩
abbrev S1024x128 : Shape := ⟨2, ![1024, 128]⟩
abbrev S256x128 : Shape := ⟨2, ![256, 128]⟩
abbrev S64x128 : Shape := ⟨2, ![64, 128]⟩

abbrev nBuf : Space → Nat
  | .hbm => 10
  | .vmem => 11
  | .smem => 2
  | _ => 0

abbrev bufTy : (tb : Table) → Fin (tcTables nBuf tb) → BufTy
  | .hbm, ⟨0, _⟩ => ⟨S256x4096, .i8⟩
  | .hbm, ⟨1, _⟩ => ⟨S4096x128, .fp8e4m3⟩
  | .hbm, ⟨2, _⟩ => ⟨S1, .f32⟩
  | .hbm, ⟨3, _⟩ => ⟨S1, .f32⟩
  | .hbm, ⟨4, _⟩ => ⟨S256x1024x4, .i8⟩
  | .hbm, ⟨5, _⟩ => ⟨S256x1024, .i32⟩
  | .hbm, ⟨6, _⟩ => ⟨S1024x4x128, .fp8e4m3⟩
  | .hbm, ⟨7, _⟩ => ⟨S4x1024x128, .fp8e4m3⟩
  | .hbm, ⟨8, _⟩ => ⟨S4096x128, .fp8e4m3⟩
  | .hbm, ⟨9, _⟩ => ⟨S4096x128, .f32⟩
  | .local _ .vmem, ⟨0, _⟩ => ⟨S256x1024, .i32⟩
  | .local _ .vmem, ⟨1, _⟩ => ⟨S4096x128, .fp8e4m3⟩
  | .local _ .vmem, ⟨2, _⟩ => ⟨S4096x128, .f32⟩
  | .local _ .vmem, ⟨3, _⟩ => ⟨S9x64x1024, .i32⟩
  | .local _ .vmem, ⟨4, _⟩ => ⟨S9x64x1024, .i32⟩
  | .local _ .vmem, ⟨5, _⟩ => ⟨S8x64x1024, .i32⟩
  | .local _ .vmem, ⟨6, _⟩ => ⟨S8x64x1024, .i32⟩
  | .local _ .vmem, ⟨7, _⟩ => ⟨S8x64x1024, .i32⟩
  | .local _ .vmem, ⟨8, _⟩ => ⟨S8x64x1024, .i32⟩
  | .local _ .vmem, ⟨9, _⟩ => ⟨S9x64x1024, .i32⟩
  | .local _ .vmem, ⟨10, _⟩ => ⟨S9x64x1024, .i32⟩
  | .local _ .smem, ⟨0, _⟩ => ⟨S1, .f32⟩
  | .local _ .smem, ⟨1, _⟩ => ⟨S1, .f32⟩
  | _, _ => ⟨S256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_62 : BitVec 32 := 1#32
  let v74 : BitVec 32 := Scalar.muli v25 c1_i32_62
  let v75 : BitVec 32 := Scalar.addi c0_i32_63 v74
  v75.toNat
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_72 : BitVec 32 := 1#32
  let v84 : BitVec 32 := Scalar.muli v14 c1_i32_72
  let v85 : BitVec 32 := Scalar.addi c0_i32_73 v84
  v85.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v129 : BitVec 32 := Scalar.muli v2 c256_i32
  let c0_i32_90 : BitVec 32 := 0#32
  let v130 : BitVec 32 := Scalar.addi v129 c0_i32_90
  let v131 : Index := Scalar.indexCast v130
  let c0_91 : Index := 0#32
  ![v131.toNat, 0]
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_96 : BitVec 32 := 1#32
  let v133 : BitVec 32 := Scalar.muli v25 c1_i32_96
  let v134 : BitVec 32 := Scalar.addi c0_i32_97 v133
  v134.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_106 : BitVec 32 := 1#32
  let v143 : BitVec 32 := Scalar.muli v14 c1_i32_106
  let v144 : BitVec 32 := Scalar.addi c0_i32_107 v143
  v144.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_116 : BitVec 32 := 1#32
  let v153 : BitVec 32 := Scalar.muli v25 c1_i32_116
  let v154 : BitVec 32 := Scalar.addi c0_i32_117 v153
  v154.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_126 : BitVec 32 := 1#32
  let v163 : BitVec 32 := Scalar.muli v14 c1_i32_126
  let v164 : BitVec 32 := Scalar.addi c0_i32_127 v163
  v164.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_136 : BitVec 32 := 1#32
  let v173 : BitVec 32 := Scalar.muli v25 c1_i32_136
  let v174 : BitVec 32 := Scalar.addi c0_i32_137 v173
  v174.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_146 : BitVec 32 := 1#32
  let v183 : BitVec 32 := Scalar.muli v14 c1_i32_146
  let v184 : BitVec 32 := Scalar.addi c0_i32_147 v183
  v184.toNat
def k0_dev11 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_194 : BitVec 32 := 1#32
  let v221 : BitVec 32 := Scalar.muli v25 c1_i32_194
  let v222 : BitVec 32 := Scalar.addi c0_i32_195 v221
  v222.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_204 : BitVec 32 := 1#32
  let v231 : BitVec 32 := Scalar.muli v14 c1_i32_204
  let v232 : BitVec 32 := Scalar.addi c0_i32_205 v231
  v232.toNat
def k0_off2 (d0 : Dev nD) (c1_i32_211 : BitVec 32) (c0_i32_237 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_210 : BitVec 32 := 16#32
  let v241 : BitVec 32 := Scalar.addi v2 c16_i32_210
  let v242 : BitVec 32 := Scalar.subi v241 c1_i32_211
  let c16_i32_212 : BitVec 32 := 16#32
  let c0_i32_213 : BitVec 32 := 0#32
  let v243 : BitVec 1 := Scalar.cmpi .eq c16_i32_212 c0_i32_213
  let c1_i32_214 : BitVec 32 := 1#32
  let v244 : BitVec 32 := Scalar.select v243 c1_i32_214 c16_i32_212
  let v245 : BitVec 32 := Scalar.remsi v242 v244
  let c0_i32_216 : BitVec 32 := 0#32
  let v247 : BitVec 1 := Scalar.cmpi .slt v245 c0_i32_216
  let c0_i32_217 : BitVec 32 := 0#32
  let v248 : BitVec 1 := Scalar.cmpi .slt v244 c0_i32_217
  let v249 : BitVec 1 := Scalar.xori v247 v248
  let c0_i32_215 : BitVec 32 := 0#32
  let v246 : BitVec 1 := Scalar.cmpi .ne v245 c0_i32_215
  let v250 : BitVec 1 := Scalar.andi v249 v246
  let v251 : BitVec 32 := Scalar.addi v245 v244
  let v252 : BitVec 32 := Scalar.select v250 v251 v245
  let c256_i32_236 : BitVec 32 := 256#32
  let v288 : BitVec 32 := Scalar.muli v252 c256_i32_236
  let v289 : BitVec 32 := Scalar.addi v288 c0_i32_237
  let v290 : Index := Scalar.indexCast v289
  let c0_238 : Index := 0#32
  ![v290.toNat, 0]
def k0_off3 (d0 : Dev nD) (c1_i32_239 : BitVec 32) (c0_i32_266 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v292 : BitVec 32 := Scalar.addi v2 c1_i32_239
  let c16_i32_240 : BitVec 32 := 16#32
  let c0_i32_241 : BitVec 32 := 0#32
  let v293 : BitVec 1 := Scalar.cmpi .eq c16_i32_240 c0_i32_241
  let c1_i32_242 : BitVec 32 := 1#32
  let v294 : BitVec 32 := Scalar.select v293 c1_i32_242 c16_i32_240
  let v295 : BitVec 32 := Scalar.remsi v292 v294
  let c0_i32_244 : BitVec 32 := 0#32
  let v297 : BitVec 1 := Scalar.cmpi .slt v295 c0_i32_244
  let c0_i32_245 : BitVec 32 := 0#32
  let v298 : BitVec 1 := Scalar.cmpi .slt v294 c0_i32_245
  let v299 : BitVec 1 := Scalar.xori v297 v298
  let c0_i32_243 : BitVec 32 := 0#32
  let v296 : BitVec 1 := Scalar.cmpi .ne v295 c0_i32_243
  let v300 : BitVec 1 := Scalar.andi v299 v296
  let v301 : BitVec 32 := Scalar.addi v295 v294
  let v302 : BitVec 32 := Scalar.select v300 v301 v295
  let c256_i32_265 : BitVec 32 := 256#32
  let v338 : BitVec 32 := Scalar.muli v302 c256_i32_265
  let v339 : BitVec 32 := Scalar.addi v338 c0_i32_266
  let v340 : Index := Scalar.indexCast v339
  let c0_267 : Index := 0#32
  ![v340.toNat, 0]
def k0_dev13 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_310 : BitVec 32 := 1#32
  let v370 : BitVec 32 := Scalar.muli v25 c1_i32_310
  let v371 : BitVec 32 := Scalar.addi c0_i32_311 v370
  v371.toNat
def k0_dev14 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_320 : BitVec 32 := 1#32
  let v380 : BitVec 32 := Scalar.muli v14 c1_i32_320
  let v381 : BitVec 32 := Scalar.addi c0_i32_321 v380
  v381.toNat
def k0_dev15 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_426 : BitVec 32 := 1#32
  let v519 : BitVec 32 := Scalar.muli v25 c1_i32_426
  let v520 : BitVec 32 := Scalar.addi c0_i32_427 v519
  v520.toNat
def k0_dev16 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_436 : BitVec 32 := 1#32
  let v529 : BitVec 32 := Scalar.muli v14 c1_i32_436
  let v530 : BitVec 32 := Scalar.addi c0_i32_437 v529
  v530.toNat
def k0_dev17 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_542 : BitVec 32 := 1#32
  let v668 : BitVec 32 := Scalar.muli v25 c1_i32_542
  let v669 : BitVec 32 := Scalar.addi c0_i32_543 v668
  v669.toNat
def k0_dev18 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_552 : BitVec 32 := 1#32
  let v678 : BitVec 32 := Scalar.muli v14 c1_i32_552
  let v679 : BitVec 32 := Scalar.addi c0_i32_553 v678
  v679.toNat
def k0_dev19 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_657 : BitVec 32 := 1#32
  let v817 : BitVec 32 := Scalar.muli v25 c1_i32_657
  let v818 : BitVec 32 := Scalar.addi c0_i32_658 v817
  v818.toNat
def k0_dev20 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_667 : BitVec 32 := 1#32
  let v827 : BitVec 32 := Scalar.muli v14 c1_i32_667
  let v828 : BitVec 32 := Scalar.addi c0_i32_668 v827
  v828.toNat
def k0_dev21 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_773 : BitVec 32 := 1#32
  let v966 : BitVec 32 := Scalar.muli v25 c1_i32_773
  let v967 : BitVec 32 := Scalar.addi c0_i32_774 v966
  v967.toNat
def k0_dev22 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_783 : BitVec 32 := 1#32
  let v976 : BitVec 32 := Scalar.muli v14 c1_i32_783
  let v977 : BitVec 32 := Scalar.addi c0_i32_784 v976
  v977.toNat
def k0_dev23 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_890 : BitVec 32 := 1#32
  let v1115 : BitVec 32 := Scalar.muli v25 c1_i32_890
  let v1116 : BitVec 32 := Scalar.addi c0_i32_891 v1115
  v1116.toNat
def k0_dev24 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_900 : BitVec 32 := 1#32
  let v1125 : BitVec 32 := Scalar.muli v14 c1_i32_900
  let v1126 : BitVec 32 := Scalar.addi c0_i32_901 v1125
  v1126.toNat
def k0_dev25 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1007 : BitVec 32 := 1#32
  let v1264 : BitVec 32 := Scalar.muli v25 c1_i32_1007
  let v1265 : BitVec 32 := Scalar.addi c0_i32_1008 v1264
  v1265.toNat
def k0_dev26 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1017 : BitVec 32 := 1#32
  let v1274 : BitVec 32 := Scalar.muli v14 c1_i32_1017
  let v1275 : BitVec 32 := Scalar.addi c0_i32_1018 v1274
  v1275.toNat
def k0_dev27 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1123 : BitVec 32 := 1#32
  let v1413 : BitVec 32 := Scalar.muli v25 c1_i32_1123
  let v1414 : BitVec 32 := Scalar.addi c0_i32_1124 v1413
  v1414.toNat
def k0_dev28 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1133 : BitVec 32 := 1#32
  let v1423 : BitVec 32 := Scalar.muli v14 c1_i32_1133
  let v1424 : BitVec 32 := Scalar.addi c0_i32_1134 v1423
  v1424.toNat
def k0_dev29 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1239 : BitVec 32 := 1#32
  let v1562 : BitVec 32 := Scalar.muli v25 c1_i32_1239
  let v1563 : BitVec 32 := Scalar.addi c0_i32_1240 v1562
  v1563.toNat
def k0_dev30 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1249 : BitVec 32 := 1#32
  let v1572 : BitVec 32 := Scalar.muli v14 c1_i32_1249
  let v1573 : BitVec 32 := Scalar.addi c0_i32_1250 v1572
  v1573.toNat
def k0_dev31 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1356 : BitVec 32 := 1#32
  let v1711 : BitVec 32 := Scalar.muli v25 c1_i32_1356
  let v1712 : BitVec 32 := Scalar.addi c0_i32_1357 v1711
  v1712.toNat
def k0_dev32 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1366 : BitVec 32 := 1#32
  let v1721 : BitVec 32 := Scalar.muli v14 c1_i32_1366
  let v1722 : BitVec 32 := Scalar.addi c0_i32_1367 v1721
  v1722.toNat
def k0_dev33 (d0 : Dev nD) : Nat :=
  let c0_i32_1474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1473 : BitVec 32 := 1#32
  let v1860 : BitVec 32 := Scalar.muli v25 c1_i32_1473
  let v1861 : BitVec 32 := Scalar.addi c0_i32_1474 v1860
  v1861.toNat
def k0_dev34 (d0 : Dev nD) : Nat :=
  let c0_i32_1484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1483 : BitVec 32 := 1#32
  let v1870 : BitVec 32 := Scalar.muli v14 c1_i32_1483
  let v1871 : BitVec 32 := Scalar.addi c0_i32_1484 v1870
  v1871.toNat
def k0_dev35 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1589 : BitVec 32 := 1#32
  let v2009 : BitVec 32 := Scalar.muli v25 c1_i32_1589
  let v2010 : BitVec 32 := Scalar.addi c0_i32_1590 v2009
  v2010.toNat
def k0_dev36 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1599 : BitVec 32 := 1#32
  let v2019 : BitVec 32 := Scalar.muli v14 c1_i32_1599
  let v2020 : BitVec 32 := Scalar.addi c0_i32_1600 v2019
  v2020.toNat
def k0_dev37 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1705 : BitVec 32 := 1#32
  let v2158 : BitVec 32 := Scalar.muli v25 c1_i32_1705
  let v2159 : BitVec 32 := Scalar.addi c0_i32_1706 v2158
  v2159.toNat
def k0_dev38 (d0 : Dev nD) : Nat :=
  let c0_i32_1716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1715 : BitVec 32 := 1#32
  let v2168 : BitVec 32 := Scalar.muli v14 c1_i32_1715
  let v2169 : BitVec 32 := Scalar.addi c0_i32_1716 v2168
  v2169.toNat
def k0_dev39 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1822 : BitVec 32 := 1#32
  let v2307 : BitVec 32 := Scalar.muli v25 c1_i32_1822
  let v2308 : BitVec 32 := Scalar.addi c0_i32_1823 v2307
  v2308.toNat
def k0_dev40 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1832 : BitVec 32 := 1#32
  let v2317 : BitVec 32 := Scalar.muli v14 c1_i32_1832
  let v2318 : BitVec 32 := Scalar.addi c0_i32_1833 v2317
  v2318.toNat
def k0_dev41 (d0 : Dev nD) : Nat :=
  let c0_i32_1940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1939 : BitVec 32 := 1#32
  let v2456 : BitVec 32 := Scalar.muli v25 c1_i32_1939
  let v2457 : BitVec 32 := Scalar.addi c0_i32_1940 v2456
  v2457.toNat
def k0_dev42 (d0 : Dev nD) : Nat :=
  let c0_i32_1950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1949 : BitVec 32 := 1#32
  let v2466 : BitVec 32 := Scalar.muli v14 c1_i32_1949
  let v2467 : BitVec 32 := Scalar.addi c0_i32_1950 v2466
  v2467.toNat
def k0_dev43 (d0 : Dev nD) : Nat :=
  let c0_i32_2056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2055 : BitVec 32 := 1#32
  let v2605 : BitVec 32 := Scalar.muli v25 c1_i32_2055
  let v2606 : BitVec 32 := Scalar.addi c0_i32_2056 v2605
  v2606.toNat
def k0_dev44 (d0 : Dev nD) : Nat :=
  let c0_i32_2066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2065 : BitVec 32 := 1#32
  let v2615 : BitVec 32 := Scalar.muli v14 c1_i32_2065
  let v2616 : BitVec 32 := Scalar.addi c0_i32_2066 v2615
  v2616.toNat
def k0_dev45 (d0 : Dev nD) : Nat :=
  let c0_i32_2172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2171 : BitVec 32 := 1#32
  let v2754 : BitVec 32 := Scalar.muli v25 c1_i32_2171
  let v2755 : BitVec 32 := Scalar.addi c0_i32_2172 v2754
  v2755.toNat
def k0_dev46 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2181 : BitVec 32 := 1#32
  let v2764 : BitVec 32 := Scalar.muli v14 c1_i32_2181
  let v2765 : BitVec 32 := Scalar.addi c0_i32_2182 v2764
  v2765.toNat
def k0_dev47 (d0 : Dev nD) : Nat :=
  let c0_i32_2289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2288 : BitVec 32 := 1#32
  let v2903 : BitVec 32 := Scalar.muli v25 c1_i32_2288
  let v2904 : BitVec 32 := Scalar.addi c0_i32_2289 v2903
  v2904.toNat
def k0_dev48 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2298 : BitVec 32 := 1#32
  let v2913 : BitVec 32 := Scalar.muli v14 c1_i32_2298
  let v2914 : BitVec 32 := Scalar.addi c0_i32_2299 v2913
  v2914.toNat
def k0_dev49 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2405 : BitVec 32 := 1#32
  let v3052 : BitVec 32 := Scalar.muli v25 c1_i32_2405
  let v3053 : BitVec 32 := Scalar.addi c0_i32_2406 v3052
  v3053.toNat
def k0_dev50 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2415 : BitVec 32 := 1#32
  let v3062 : BitVec 32 := Scalar.muli v14 c1_i32_2415
  let v3063 : BitVec 32 := Scalar.addi c0_i32_2416 v3062
  v3063.toNat
def k0_dev51 (d0 : Dev nD) : Nat :=
  let c0_i32_2522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2521 : BitVec 32 := 1#32
  let v3201 : BitVec 32 := Scalar.muli v25 c1_i32_2521
  let v3202 : BitVec 32 := Scalar.addi c0_i32_2522 v3201
  v3202.toNat
def k0_dev52 (d0 : Dev nD) : Nat :=
  let c0_i32_2532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2531 : BitVec 32 := 1#32
  let v3211 : BitVec 32 := Scalar.muli v14 c1_i32_2531
  let v3212 : BitVec 32 := Scalar.addi c0_i32_2532 v3211
  v3212.toNat
def k0_dev53 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2637 : BitVec 32 := 1#32
  let v3350 : BitVec 32 := Scalar.muli v25 c1_i32_2637
  let v3351 : BitVec 32 := Scalar.addi c0_i32_2638 v3350
  v3351.toNat
def k0_dev54 (d0 : Dev nD) : Nat :=
  let c0_i32_2648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2647 : BitVec 32 := 1#32
  let v3360 : BitVec 32 := Scalar.muli v14 c1_i32_2647
  let v3361 : BitVec 32 := Scalar.addi c0_i32_2648 v3360
  v3361.toNat
def k0_dev55 (d0 : Dev nD) : Nat :=
  let c0_i32_2755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2754 : BitVec 32 := 1#32
  let v3499 : BitVec 32 := Scalar.muli v25 c1_i32_2754
  let v3500 : BitVec 32 := Scalar.addi c0_i32_2755 v3499
  v3500.toNat
def k0_dev56 (d0 : Dev nD) : Nat :=
  let c0_i32_2765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2764 : BitVec 32 := 1#32
  let v3509 : BitVec 32 := Scalar.muli v14 c1_i32_2764
  let v3510 : BitVec 32 := Scalar.addi c0_i32_2765 v3509
  v3510.toNat
def k0_dev57 (d0 : Dev nD) : Nat :=
  let c0_i32_2872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2871 : BitVec 32 := 1#32
  let v3648 : BitVec 32 := Scalar.muli v25 c1_i32_2871
  let v3649 : BitVec 32 := Scalar.addi c0_i32_2872 v3648
  v3649.toNat
def k0_dev58 (d0 : Dev nD) : Nat :=
  let c0_i32_2882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2881 : BitVec 32 := 1#32
  let v3658 : BitVec 32 := Scalar.muli v14 c1_i32_2881
  let v3659 : BitVec 32 := Scalar.addi c0_i32_2882 v3658
  v3659.toNat
def k0_dev59 (d0 : Dev nD) : Nat :=
  let c0_i32_2989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2988 : BitVec 32 := 1#32
  let v3797 : BitVec 32 := Scalar.muli v25 c1_i32_2988
  let v3798 : BitVec 32 := Scalar.addi c0_i32_2989 v3797
  v3798.toNat
def k0_dev60 (d0 : Dev nD) : Nat :=
  let c0_i32_3095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3094 : BitVec 32 := 1#32
  let v3936 : BitVec 32 := Scalar.muli v25 c1_i32_3094
  let v3937 : BitVec 32 := Scalar.addi c0_i32_3095 v3936
  v3937.toNat
def k0_dev61 (d0 : Dev nD) : Nat :=
  let c0_i32_3202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3201 : BitVec 32 := 1#32
  let v4075 : BitVec 32 := Scalar.muli v14 c1_i32_3201
  let v4076 : BitVec 32 := Scalar.addi c0_i32_3202 v4075
  v4076.toNat
def k0_dev62 (d0 : Dev nD) : Nat :=
  let c0_i32_3309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3308 : BitVec 32 := 1#32
  let v4214 : BitVec 32 := Scalar.muli v14 c1_i32_3308
  let v4215 : BitVec 32 := Scalar.addi c0_i32_3309 v4214
  v4215.toNat
abbrev stage0_0 : Fin 1 → Memref sig .tc .vmem S256x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .i8⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .i8⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .i8⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
  The kernel's body as a list of actions.

  The kernel sends eight streams of slices around the ring: stream `ch` below 4 goes to the next device and carries
  the rows `64·ch …` of each device's block, stream `ch` from 4 on goes to the previous device and carries the rows
  `64·(ch − 4) …`. A stream's hop `h` copies slot `h` of the sender's landing buffer into slot `h + 1` of the receiver's.
  This module names the slots, the semaphores and the actions (wait for a hop, start a hop, multiply a tile), writes
  the body as a run of a list of actions, and proves that the printed body is that run.
-/
module

public import proofs.«01_k».proof.Proof.Gen.KernelIdeal.Frame
public import proofs.«01_k».proof.Proof.Gen.KernelIdeal.Skeleton

@[expose] public section

noncomputable section

namespace Cert.Proof.Run

open Idealize.ShloMosaic Idealize.ShloMosaic.TcCoe Idealize.SL.Sem Cert.KernelIdeal
open Cert.KernelIdeal.Facts₀ Cert.KernelIdeal.Facts

variable {F : FTy → Type} [FloatOps F]

/-- How many hops stream `ch` makes. -/
def len (ch : Fin 8) : ℕ := match ch with
  | 0 => 8 | 1 => 8 | 2 => 7 | 3 => 7 | 4 => 7 | 5 => 7 | 6 => 8 | 7 => 8

/-- One slot's place in a landing buffer of nine slots is inside it. -/
theorem inb9 (j : ℕ) (a : Fin 3) : (![j % 9, 0, 0] : Fin 3 → ℕ) a + S1x64x1024.size a ≤ S9x64x1024.size a := by
  have := Nat.mod_lt j (show 0 < 9 by decide)
  fin_cases a <;> simp [S9x64x1024, S1x64x1024] <;> omega
/-- One slot's place in a landing buffer of eight slots is inside it. -/
theorem inb8 (j : ℕ) (a : Fin 3) : (![j % 8, 0, 0] : Fin 3 → ℕ) a + S1x64x1024.size a ≤ S8x64x1024.size a := by
  have := Nat.mod_lt j (show 0 < 8 by decide)
  fin_cases a <;> simp [S8x64x1024, S1x64x1024] <;> omega

/-- Slot `j` of a nine-slot landing buffer, as a rectangle of it. -/
abbrev rect9 (j : ℕ) : Rect S9x64x1024 := Rect.unit (s := S9x64x1024) ![j % 9, 0, 0] S1x64x1024.size (inb9 j)
/-- Slot `j` of an eight-slot landing buffer, as a rectangle of it. -/
abbrev rect8 (j : ℕ) : Rect S8x64x1024 := Rect.unit (s := S8x64x1024) ![j % 8, 0, 0] S1x64x1024.size (inb8 j)

/-- Slot `j` of a nine-slot landing buffer, as a 64×1024 view. -/
abbrev view9 (b : Memref sig .tc .vmem S9x64x1024 .i32) (j : ℕ) : Memref sig .tc .vmem S64x1024 .i32 :=
  (b.slice (rect9 j) (fun _ => rfl)).squeeze S64x1024 squeezes_S1x64x1024_S64x1024
/-- Slot `j` of an eight-slot landing buffer, as a 64×1024 view. -/
abbrev view8 (b : Memref sig .tc .vmem S8x64x1024 .i32) (j : ℕ) : Memref sig .tc .vmem S64x1024 .i32 :=
  (b.slice (rect8 j) (fun _ => rfl)).squeeze S64x1024 squeezes_S1x64x1024_S64x1024

/-- Slot `j` of stream `ch`'s landing buffer. -/
def slot (ch : Fin 8) (j : ℕ) : Memref sig .tc .vmem S64x1024 .i32 := match ch with
  | 0 => view9 (Memref.whole cc0_scratch0) j | 1 => view9 (Memref.whole cc0_scratch1) j
  | 2 => view8 (Memref.whole cc0_scratch2) j | 3 => view8 (Memref.whole cc0_scratch3) j
  | 4 => view8 (Memref.whole cc0_scratch4) j | 5 => view8 (Memref.whole cc0_scratch5) j
  | 6 => view9 (Memref.whole cc0_scratch6) j | 7 => view9 (Memref.whole cc0_scratch7) j

/-- The program of the body: effects of the TensorCore over no called labels but the kernel's own. -/
abbrev BProg (α : Type) : Type 1 := Prog (TpuEff nD τ sig (Elt F) Λ₀ .tc) α

/-- Load slot `j` of a nine-slot buffer. -/
abbrev load9 (b : Memref sig .tc .vmem S9x64x1024 .i32) (j : ℕ) : BProg (F := F) (Vec F S1x64x1024 .i32) :=
  Prog.lift (.load b (rect9 j).toLoadRect (View.loadsAt_vmem h_S1x64x1024))
/-- Load slot `j` of an eight-slot buffer. -/
abbrev load8 (b : Memref sig .tc .vmem S8x64x1024 .i32) (j : ℕ) : BProg (F := F) (Vec F S1x64x1024 .i32) :=
  Prog.lift (.load b (rect8 j).toLoadRect (View.loadsAt_vmem h_S1x64x1024))
/-- Load slot `j` of stream `ch`'s landing buffer. -/
def loadSlot (ch : Fin 8) (j : ℕ) : BProg (F := F) (Vec F S1x64x1024 .i32) := match ch with
  | 0 => load9 (Memref.whole cc0_scratch0) j | 1 => load9 (Memref.whole cc0_scratch1) j
  | 2 => load8 (Memref.whole cc0_scratch2) j | 3 => load8 (Memref.whole cc0_scratch3) j
  | 4 => load8 (Memref.whole cc0_scratch4) j | 5 => load8 (Memref.whole cc0_scratch5) j
  | 6 => load9 (Memref.whole cc0_scratch6) j | 7 => load9 (Memref.whole cc0_scratch7) j
/-- Store into slot 0 of stream `ch`'s landing buffer. -/
def storeSlot (ch : Fin 8) (v : Vec F S1x64x1024 .i32) : BProg (F := F) PUnit := match ch with
  | 0 => Prog.lift (.store (Memref.whole cc0_scratch0) (rect9 0) v Finset.univ (View.stores_vmem_bits_univ h_S1x64x1024 rfl) (.inl rfl))
  | 1 => Prog.lift (.store (Memref.whole cc0_scratch1) (rect9 0) v Finset.univ (View.stores_vmem_bits_univ h_S1x64x1024 rfl) (.inl rfl))
  | 2 => Prog.lift (.store (Memref.whole cc0_scratch2) (rect8 0) v Finset.univ (View.stores_vmem_bits_univ h_S1x64x1024 rfl) (.inl rfl))
  | 3 => Prog.lift (.store (Memref.whole cc0_scratch3) (rect8 0) v Finset.univ (View.stores_vmem_bits_univ h_S1x64x1024 rfl) (.inl rfl))
  | 4 => Prog.lift (.store (Memref.whole cc0_scratch4) (rect8 0) v Finset.univ (View.stores_vmem_bits_univ h_S1x64x1024 rfl) (.inl rfl))
  | 5 => Prog.lift (.store (Memref.whole cc0_scratch5) (rect8 0) v Finset.univ (View.stores_vmem_bits_univ h_S1x64x1024 rfl) (.inl rfl))
  | 6 => Prog.lift (.store (Memref.whole cc0_scratch6) (rect9 0) v Finset.univ (View.stores_vmem_bits_univ h_S1x64x1024 rfl) (.inl rfl))
  | 7 => Prog.lift (.store (Memref.whole cc0_scratch7) (rect9 0) v Finset.univ (View.stores_vmem_bits_univ h_S1x64x1024 rfl) (.inl rfl))

/-- The semaphore number of stream `ch`'s send cell of parity `h`. -/
theorem semS_lt (ch : Fin 8) (h : ℕ) : 5 + 16 * (ch.val / 4) + 2 * (ch.val % 4) + h % 2 < 37 := by have := ch.isLt; omega
/-- The semaphore number of stream `ch`'s receive cell of parity `h`. -/
theorem semR_lt (ch : Fin 8) (h : ℕ) : 13 + 16 * (ch.val / 4) + 2 * (ch.val % 4) + h % 2 < 37 := by have := ch.isLt; omega
/-- The semaphore that counts the sending half of stream `ch`'s hop `h`. -/
def semS (ch : Fin 8) (h : ℕ) : DmaSem sig := ⟨_, semS_lt ch h⟩
/-- The semaphore that counts the arrival of stream `ch`'s hop `h`. -/
def semR (ch : Fin 8) (h : ℕ) : DmaSem sig := ⟨_, semR_lt ch h⟩

/-- The neighbour stream `ch` sends to, as the body computes it. -/
def dest (ch : Fin 8) (d : Dev nD) : Dev nD :=
  if ch.val < 4 then ⟨k0_dev3 d, Gen.facts.k0_dev3_lt d⟩ else ⟨k0_dev4 d, Gen.facts.k0_dev4_lt d⟩

/-- A slot's elements are whole words. -/
theorem slot_wordExact (ch : Fin 8) (j : ℕ) : (slot ch j).view.WordExact := View.wordExact_bits rfl

/-- Start stream `ch`'s hop `h`. -/
def sendP (d : Dev nD) (ch : Fin 8) (h : ℕ) : BProg (F := F) PUnit :=
  Prog.lift (.enqueueDma (slot ch h) (.remote (Dev.tc (dest ch d)) (slot ch (h + 1)) (.dma (semS ch h))) (.dma (semR ch h))
    (slot_wordExact ch h) (slot_wordExact ch (h + 1)) ⟨⟨rfl, Or.inl rfl⟩, trivial⟩)

/-- Wait until stream `ch`'s hop `h` is sent. -/
def waitSP (ch : Fin 8) (h : ℕ) : BProg (F := F) PUnit :=
  Prog.lift (.waitDma2 (semS ch h) (slot ch (h + 1)) (slot ch h) (slot_wordExact ch (h + 1)) (slot_wordExact ch h))
/-- Wait until stream `ch`'s hop `h` has arrived. -/
def waitRP (ch : Fin 8) (h : ℕ) : BProg (F := F) PUnit :=
  Prog.lift (.waitDma2 (semR ch h) (slot ch h) (slot ch (h + 1)) (slot_wordExact ch h) (slot_wordExact ch (h + 1)))

/-- One of the four byte planes of 64 packed rows times its quarter of the weights. -/
def mm64 (x : IVec S64x1024 32) (sh : BitVec 32) (w : Vec F S1024x128 .fp8e4m3) : FVec F S64x128 .f32 :=
  matmul dot_S64x1024_S1024x128_S64x128_1_0_0_1_n_n none
    (bitcastToFloat .fp8e4m3 (trunci 8 (shrui x (broadcast S64x1024 sh)) natLt_8_32))
    (shapeCast S1024x128 w shapeCasts_S1024x128_S1024x128) (constant S64x128 .f32 0x00000000#32)
/-- One of the four byte planes of 256 packed rows times its quarter of the weights. -/
def mm256 (x : IVec S256x1024 32) (sh : BitVec 32) (w : Vec F S1024x128 .fp8e4m3) : FVec F S256x128 .f32 :=
  matmul dot_S256x1024_S1024x128_S256x128_1_0_0_1_n_n none
    (bitcastToFloat .fp8e4m3 (trunci 8 (shrui x (broadcast S256x1024 sh)) natLt_8_32))
    (shapeCast S1024x128 w shapeCasts_S1024x128_S1024x128) (constant S256x128 .f32 0x00000000#32)
/-- The product of 64 packed rows with the weights, scaled. -/
def tile64 (sc : F .f32) (x : Vec F S1x64x1024 .i32) (w0 w1 w2 w3 : Vec F S1024x128 .fp8e4m3) : FVec F S64x128 .f32 :=
  have v : IVec S64x1024 32 := shapeCast S64x1024 x shapeCasts_S1x64x1024_S64x1024
  mulf (addf (addf (addf (mm64 v 0#32 w0) (mm64 v 8#32 w1)) (mm64 v 16#32 w2)) (mm64 v 24#32 w3)) (broadcast S64x128 sc)
/-- The product of the device's own 256 packed rows with the weights, scaled. -/
def tile256 (sc : F .f32) (x : Vec F S256x1024 .i32) (w0 w1 w2 w3 : Vec F S1024x128 .fp8e4m3) : FVec F S256x128 .f32 :=
  have v : IVec S256x1024 32 := shapeCast S256x1024 x shapeCasts_S256x1024_S256x1024
  mulf (addf (addf (addf (mm256 v 0#32 w0) (mm256 v 8#32 w1)) (mm256 v 16#32 w2)) (mm256 v 24#32 w3)) (broadcast S256x128 sc)

/-- The packed block of the device. -/
abbrev xM : Memref sig .tc .vmem S256x1024 .i32 := Memref.whole cc0_stg0_0
/-- The regrouped weights of the device. -/
abbrev wM : Memref sig .tc .vmem S4096x128 .fp8e4m3 := Memref.whole cc0_stg1_0
/-- The result of the device. -/
abbrev oM : Memref sig .tc .vmem S4096x128 .f32 := Memref.whole cc0_stg4_0

/-- Load the quarter of the weights that starts at row `o`. -/
abbrev loadW (o : ℕ) (ho : ∀ a, (![o, 0] : Fin 2 → ℕ) a + S1024x128.size a ≤ S4096x128.size a) :
    BProg (F := F) (Vec F S1024x128 .fp8e4m3) :=
  Prog.lift (.load wM (Rect.unit (s := S4096x128) ![o, 0] S1024x128.size ho).toLoadRect (View.loadsAt_vmem h_S1024x128))

/-- Multiply the rows at hand and store the product at `off` of the result. -/
def tileP (sc : F .f32) (ld : BProg (F := F) (Vec F S1x64x1024 .i32)) (off : Fin 2 → ℕ)
    (hoff : ∀ a, off a + S64x128.size a ≤ S4096x128.size a) : BProg (F := F) PUnit := do
  let x ← ld
  let w0 ← loadW 0 inb_S4096x128_S1024x128_0_0
  let w1 ← loadW 1024 inb_S4096x128_S1024x128_1024_0
  let w2 ← loadW 2048 inb_S4096x128_S1024x128_2048_0
  let w3 ← loadW 3072 inb_S4096x128_S1024x128_3072_0
  let _o : Vec F S64x128 .f32 ← Prog.lift (.load oM (Rect.unit (s := S4096x128) off S64x128.size hoff).toLoadRect (View.loadsAt_vmem h_S64x128))
  Prog.lift (.store oM (Rect.unit (s := S4096x128) off S64x128.size hoff) (tile64 sc x w0 w1 w2 w3) Finset.univ
    (View.stores_vmem_bits_univ h_S64x128 rfl) (.inl rfl))

/-- Multiply the device's own block and store the product. -/
def ownP (sc : F .f32) (d : Dev nD) : BProg (F := F) PUnit := do
  let x : Vec F S256x1024 .i32 ← Prog.lift (.load xM (Rect.unit (s := S256x1024) ![0, 0] S256x1024.size inb_S256x1024_S256x1024_0_0).toLoadRect (View.loadsAt_vmem h_S256x1024))
  let w0 ← loadW 0 inb_S4096x128_S1024x128_0_0
  let w1 ← loadW 1024 inb_S4096x128_S1024x128_1024_0
  let w2 ← loadW 2048 inb_S4096x128_S1024x128_2048_0
  let w3 ← loadW 3072 inb_S4096x128_S1024x128_3072_0
  let _o : Vec F S256x128 .f32 ← Prog.lift (.load oM (Rect.unit (s := S4096x128) (k0_off1 d) S256x128.size (k0_off1_inb d)).toLoadRect (View.loadsAt_vmem h_S256x128))
  Prog.lift (.store oM (Rect.unit (s := S4096x128) (k0_off1 d) S256x128.size (k0_off1_inb d)) (tile256 sc x w0 w1 w2 w3) Finset.univ
    (View.stores_vmem_bits_univ h_S256x128 rfl) (.inl rfl))

/-- Where in the result the tile of stream `ch`'s slot `j` goes, as the body computes it. -/
def tileOff (ch : Fin 8) (j : ℕ) (d : Dev nD) : Fin 2 → ℕ :=
  if ch.val < 4 ∧ j < 8 then k0_off2 d (BitVec.ofNat 32 (1 + (j - 1) % 7)) (BitVec.ofNat 32 (64 * (ch.val % 4)))
  else k0_off3 d (BitVec.ofNat 32 (1 + (j - 1) % 8)) (BitVec.ofNat 32 (64 * (ch.val % 4)))

/-- That place is inside the result. -/
theorem tileOff_inb (ch : Fin 8) (j : ℕ) (d : Dev nD) (a : Fin 2) : tileOff ch j d a + S64x128.size a ≤ S4096x128.size a := by
  unfold tileOff
  split
  · exact k0_off2_inb d ⟨_, Nat.mod_lt _ (by decide)⟩ ⟨ch.val % 4, Nat.mod_lt _ (by decide)⟩ a
  · exact k0_off3_inb d ⟨_, Nat.mod_lt _ (by decide)⟩ ⟨ch.val % 4, Nat.mod_lt _ (by decide)⟩ a

/-- One action of the body. -/
inductive Act
  /-- Wait for stream `ch`'s hop `h`: sent, then arrived. -/
  | wait (ch : Fin 8) (h : ℕ)
  /-- Start stream `ch`'s hop `h`. -/
  | send (ch : Fin 8) (h : ℕ)
  /-- Multiply the device's own block. -/
  | own
  /-- Multiply what is in stream `ch`'s slot `j`. -/
  | tile (ch : Fin 8) (j : ℕ)
  deriving DecidableEq

/-- What an action does, on device `d` at scale `sc`. -/
def Act.prog (d : Dev nD) (sc : F .f32) : Act → BProg (F := F) PUnit
  | .wait ch h => do waitSP ch h; waitRP ch h
  | .send ch h => sendP d ch h
  | .own => ownP sc d
  | .tile ch j => tileP sc (loadSlot ch j) (tileOff ch j d) (tileOff_inb ch j d)

/-- The actions of a list, one after the other. -/
def runActs (d : Dev nD) (sc : F .f32) : List Act → BProg (F := F) PUnit
  | [] => pure ⟨⟩
  | a :: l => do a.prog d sc; runActs d sc l

/-- The actions of step `s` for the group whose streams are `r` (to the next device) and `l` (to the previous one). -/
def stepActs (s : ℕ) (r l : Fin 8) : List Act :=
  (if 1 ≤ s ∧ s ≤ len r then [.wait r (s - 1)] else []) ++ (if 1 ≤ s ∧ s ≤ len l then [.wait l (s - 1)] else [])
  ++ (if s < len r then [.send r s] else []) ++ (if s < len l then [.send l s] else [])
  ++ (if s = 0 then (if r = 0 then [.own] else []) else
    (if s ≤ len r then [.tile r s] else []) ++ (if s ≤ len l then [.tile l s] else []))

/-- The last wait and tile of stream `ch`, if it makes eight hops. -/
def lastActs (ch : Fin 8) : List Act := if len ch = 8 then [.wait ch 7, .tile ch 8] else []

/-- The actions of the body, in order. -/
def acts : List Act :=
  ([0, 1, 2, 3, 4, 5, 6, 7] : List ℕ).flatMap (fun s =>
    stepActs s 0 4 ++ (stepActs s 1 5 ++ (stepActs s 2 6 ++ stepActs s 3 7)))
  ++ (lastActs 0 ++ lastActs 4 ++ lastActs 1 ++ lastActs 5 ++ lastActs 2 ++ lastActs 6 ++ lastActs 3 ++ lastActs 7)

/-- Load the 64 packed rows from row `o` of the device's block and store them as slot 0 of a landing buffer. -/
def fillP (ch : Fin 8) (o : ℕ) (ho : ∀ a, (![o, 0] : Fin 2 → ℕ) a + S64x1024.size a ≤ S256x1024.size a) : BProg (F := F) PUnit := do
  let x : Vec F S64x1024 .i32 ← Prog.lift (.load xM (Rect.unit (s := S256x1024) ![o, 0] S64x1024.size ho).toLoadRect (View.loadsAt_vmem h_S64x1024))
  let _o ← loadSlot ch 0
  storeSlot ch (shapeCast S1x64x1024 (shapeCast S64x1024 x shapeCasts_S64x1024_S64x1024) shapeCasts_S64x1024_S1x64x1024)

/-- Fill slot 0 of every landing buffer. -/
def fillsP : BProg (F := F) PUnit := do
  fillP 0 0 inb_S256x1024_S64x1024_0_0; fillP 4 0 inb_S256x1024_S64x1024_0_0
  fillP 1 64 inb_S256x1024_S64x1024_64_0; fillP 5 64 inb_S256x1024_S64x1024_64_0
  fillP 2 128 inb_S256x1024_S64x1024_128_0; fillP 6 128 inb_S256x1024_S64x1024_128_0
  fillP 3 192 inb_S256x1024_S64x1024_192_0; fillP 7 192 inb_S256x1024_S64x1024_192_0

/-- The scale: the product of the two scalars. -/
def scaleP : BProg (F := F) (F .f32) := do
  let a : Elt F .f32 ← smemLoad (Memref.whole cc0_stg2_0) (Rect.unit (s := S1) ![0] S1.size inb_S1_S1_0) numel1_S1 rfl
  let b : Elt F .f32 ← smemLoad (Memref.whole cc0_stg3_0) (Rect.unit (s := S1) ![0] S1.size inb_S1_S1_0) numel1_S1 rfl
  pure (Scalar.mulf a b)

/-- The entry handshake: a signal to either neighbour, and a wait for both. -/
def enterP : BProg (F := F) (Dev nD) := do
  let d : Dev nD ← Prog.lift .deviceId
  semSignalWord (⟨k0_dev1 d, k0_dev1_lt d⟩ : Dev nD) (sig.barrier 0 rfl) 1#32
  semSignalWord (⟨k0_dev2 d, k0_dev2_lt d⟩ : Dev nD) (sig.barrier 0 rfl) 1#32
  semWaitWord (sig.barrier 0 rfl) 2#32
  pure d

/-- The body: the handshake, the scale, slot 0 of every buffer, then the actions. -/
def bodyP : BProg (F := F) PUnit := do
  let d ← enterP
  let sc ← scaleP
  fillsP
  runActs d sc acts

/-- The printed body is that run. -/
theorem body_eq : cc0_body (F := F) xM (Memref.isWhole_whole _) wM (Memref.isWhole_whole _) (Memref.whole cc0_stg2_0) (Memref.isWhole_whole _)
    (Memref.whole cc0_stg3_0) (Memref.isWhole_whole _) oM (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23
    = bodyP := by
  chain_rfl

end Cert.Proof.Run
end
-- ==== Proof.Protocol.lean ====
/-
  The kernel's protocol.

  The ring's arithmetic (`tgt`, `src`: the two ends of a stream), the semaphore cells, what a slot holds when it is
  filled (`sv`), and the schedule of the cells: which hop pays which round, how much, and what the payment hands over.
  A hop's sending half gives the sender back the half share of the slot it copied from. A hop's arrival gives the
  receiver the filled slot, and with it the fact that the sender has taken all earlier hops of the opposite stream, so
  that a semaphore of two hops' parity is not credited twice at once. The entry signal of a neighbour gives the slots
  of the neighbour's landing buffers that this device will fill.
  Then what a device owes after it has started some of its hops, and the order of the cells under which every wait is
  below everything still owed.
-/
module

public import proofs.«01_k».proof.Proof.Prog
public import Idealize.ShloMosaic.Lib.Pipeline.Launch
public import Idealize.ShloMosaic.Lib.Pipeline.Regions
public import Idealize.ShloMosaic.Lib.Tactic
public import Idealize.ShloMosaic.Lib.Rounds
public import Idealize.ShloMosaic.Lib.Ring
public import Idealize.ShloMosaic.Lib.VecWindow

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ring's copy of the rounds algebra over the machine's cells; a duty is named by a Boolean. -/
abbrev UR : Type := URounds (GSem nD τ sig) Bool
/-- The staging transfers' copy. -/
abbrev US : Type := URounds (GSem nD τ sig) Unit
/-- The two copies. -/
abbrev UU : Type := US × UR

local notation "𝕄" => MT nD τ sig ℕ (Elt F) ℕ UU ℕ

/-- The staging transfers' copy. -/
def EP : Emb US (MT nD τ sig ℕ (Elt F) ℕ UU ℕ) :=
  (Emb.inl : Emb US UU).trans (uEmb (nD := nD) (sig := sig) (Ix := ℕ) (Val := Elt F) (Name := ℕ) (U := UU) (Lvl := ℕ)).toEmb
/-- The ring's copy. -/
def ER : Emb UR (MT nD τ sig ℕ (Elt F) ℕ UU ℕ) :=
  (Emb.inr : Emb UR UU).trans (uEmb (nD := nD) (sig := sig) (Ix := ℕ) (Val := Elt F) (Name := ℕ) (U := UU) (Lvl := ℕ)).toEmb

instance EP_landsIn : (EP : Emb US 𝕄).LandsIn (upEmb : UEmb _ 𝕄) := by unfold EP; infer_instance
instance ER_landsIn : (ER : Emb UR 𝕄).LandsIn (upEmb : UEmb _ 𝕄) := by unfold ER; infer_instance

/-- A big separating conjunction is monotone. -/
theorem big_mono {I : Type} {S : Finset I} {Φ Ψ : I → sProp 𝕄} (h : ∀ i ∈ S, Φ i ⊢ Ψ i) : bigSep S Φ ⊢ bigSep S Ψ :=
  bigSep_mono h
/-- One of a big separating conjunction's parts. -/
theorem big_elim {I : Type} [DecidableEq I] {S : Finset I} {i : I} (h : i ∈ S) {Φ : I → sProp 𝕄} : (bigSep S Φ : sProp 𝕄) ⊢ Φ i :=
  bigSep_elim h
/-- One part and the rest. -/
theorem big_insert {I : Type} [DecidableEq I] {S : Finset I} {i : I} (h : i ∉ S) {Φ : I → sProp 𝕄} :
    bigSep (insert i S) Φ = iprop(Φ i ∗ bigSep S Φ) := bigSep_insert h
/-- One part of a set, and the rest. -/
theorem big_erase {I : Type} [DecidableEq I] {S : Finset I} {i : I} (h : i ∈ S) {Φ : I → sProp 𝕄} :
    bigSep S Φ = iprop(Φ i ∗ bigSep (S.erase i) Φ) := bigSep_erase h

/-! ## The ring -/

set_option backward.proofsInPublic true in
/-- The next device. -/
def nxt (c : Dev nD) : Dev nD := ⟨(c.val + 1) % 16, Nat.mod_lt _ (by decide)⟩
set_option backward.proofsInPublic true in
/-- The previous device. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- The device stream `ch` takes device `c`'s slots to. -/
def tgt (ch : Fin 8) (c : Dev nD) : Dev nD := if ch.val < 4 then nxt c else prv c
/-- The device stream `ch` fills device `c`'s slots from. -/
def src (ch : Fin 8) (c : Dev nD) : Dev nD := if ch.val < 4 then prv c else nxt c

theorem src_tgt (ch : Fin 8) (c : Dev nD) : src ch (tgt ch c) = c := by
  unfold src tgt; split <;> simp only [prv_nxt, nxt_prv]
theorem tgt_src (ch : Fin 8) (c : Dev nD) : tgt ch (src ch c) = c := by
  unfold src tgt; split <;> simp only [prv_nxt, nxt_prv]

/-- The ring as a permutation, along stream `ch`. -/
def ring (ch : Fin 8) : Dev nD ≃ Dev nD := ⟨tgt ch, src ch, src_tgt ch, tgt_src ch⟩

set_option backward.proofsInPublic true in
/-- The stream of the same rows the other way round the ring. -/
def opp (ch : Fin 8) : Fin 8 := ⟨(ch.val + 4) % 8, Nat.mod_lt _ (by decide)⟩
theorem opp_opp (ch : Fin 8) : opp (opp ch) = ch := by revert ch; decide
theorem opp_ne (ch : Fin 8) : opp ch ≠ ch := by revert ch; decide
theorem src_opp (ch : Fin 8) (c : Dev nD) : src (opp ch) c = tgt ch c := by
  revert ch c; decide
/-- The opposite stream, as a permutation of the streams. -/
def flip : Fin 8 ≃ Fin 8 := ⟨opp, opp, opp_opp, opp_opp⟩

theorem dev1_eq (c : Dev nD) : (⟨k0_dev1 c, Gen.facts.k0_dev1_lt c⟩ : Dev nD) = prv c := by
  revert c; decide +kernel
theorem dev2_eq (c : Dev nD) : (⟨k0_dev2 c, Gen.facts.k0_dev2_lt c⟩ : Dev nD) = nxt c := by
  revert c; decide +kernel
/-- The body's neighbour of a stream is the ring's. -/
theorem dest_eq (ch : Fin 8) (c : Dev nD) : dest ch c = tgt ch c := by
  unfold dest tgt
  split
  · revert c; decide +kernel
  · revert c; decide +kernel

/-- The device whose rows are in slot `j` of stream `ch` on device `c`. -/
def org (ch : Fin 8) : ℕ → Dev nD → Dev nD
  | 0, c => c
  | j + 1, c => org ch j (src ch c)

theorem org_tgt (ch : Fin 8) (j : ℕ) (c : Dev nD) : org ch (j + 1) (tgt ch c) = org ch j c := by
  rw [org, src_tgt]

/-! ## The cells -/

/-- The semaphore of stream `ch`'s cell `q`: its two send cells, then its two receive cells. -/
def osem (k : Fin 8 × Fin 4) : SemLoc sig :=
  if k.2.val < 2 then .dma (semS k.1 k.2.val) else .dma (semR k.1 k.2.val)

/-- Device `c`'s entry cell. -/
abbrev barCell (c : Dev nD) : GSem nD τ sig := ((c : Thread nD τ), .reg (sig.barrier 0 rfl))
/-- Device `c`'s cell for the sending half of stream `ch`'s hop `h`. -/
abbrev sendCell (c : Dev nD) (ch : Fin 8) (h : ℕ) : GSem nD τ sig := ((c : Thread nD τ), .dma (semS ch h))
/-- Device `c`'s cell for the arrival of stream `ch`'s hop `h`. -/
abbrev recvCell (c : Dev nD) (ch : Fin 8) (h : ℕ) : GSem nD τ sig := ((c : Thread nD τ), .dma (semR ch h))

/-- The stream of a semaphore. -/
def chOf (s : DmaSem sig) : Fin 8 := ⟨(4 * ((s.val - 5) / 16) + ((s.val - 5) % 8) / 2) % 8, Nat.mod_lt _ (by decide)⟩
/-- The parity of a semaphore. -/
def parOf (s : DmaSem sig) : ℕ := (s.val - 5) % 2
/-- Whether a semaphore counts arrivals. -/
abbrev IsR (s : DmaSem sig) : Prop := 5 ≤ s.val ∧ (s.val - 5) % 16 / 8 = 1

theorem chOf_semS (ch : Fin 8) (h : ℕ) : chOf (semS ch h) = ch := by
  apply Fin.ext; have := ch.isLt; simp only [chOf, semS]; omega
theorem chOf_semR (ch : Fin 8) (h : ℕ) : chOf (semR ch h) = ch := by
  apply Fin.ext; have := ch.isLt; simp only [chOf, semR]; omega
theorem parOf_semS (ch : Fin 8) (h : ℕ) : parOf (semS ch h) = h % 2 := by
  have := ch.isLt; simp only [parOf, semS]; omega
theorem parOf_semR (ch : Fin 8) (h : ℕ) : parOf (semR ch h) = h % 2 := by
  have := ch.isLt; simp only [parOf, semR]; omega
theorem not_isR_semS (ch : Fin 8) (h : ℕ) : ¬IsR (semS ch h) := by
  have := ch.isLt; simp only [IsR, semS]; omega
theorem isR_semR (ch : Fin 8) (h : ℕ) : IsR (semR ch h) := by
  have := ch.isLt; simp only [IsR, semR]; omega
theorem semS_ge (ch : Fin 8) (h : ℕ) : 5 ≤ (semS ch h).val := by simp only [semS]; omega
theorem semR_ge (ch : Fin 8) (h : ℕ) : 5 ≤ (semR ch h).val := by simp only [semR]; omega
/-- Hops of one parity share their semaphores. -/
theorem semS_mod {ch : Fin 8} {h h' : ℕ} (e : h % 2 = h' % 2) : semS ch h = semS ch h' := by
  apply Fin.ext; simp only [semS, e]
theorem semR_mod {ch : Fin 8} {h h' : ℕ} (e : h % 2 = h' % 2) : semR ch h = semR ch h' := by
  apply Fin.ext; simp only [semR, e]

/-! ## Contents -/

/-- The packed blocks of all devices. -/
abbrev Blocks (F : FTy → Type) : Type := Dev nD → Vec F S256x1024 .i32

theorem inbG (g : ℕ) (a : Fin 2) : (![64 * (g % 4), 0] : Fin 2 → ℕ) a + S64x1024.size a ≤ S256x1024.size a := by
  have := Nat.mod_lt g (show 0 < 4 by decide)
  fin_cases a <;> simp [S256x1024, S64x1024] <;> omega

/-- The `g`-th 64 rows of device `d`'s packed block. -/
def gv (X : Blocks F) (d : Dev nD) (g : ℕ) : Vec F S64x1024 .i32 :=
  fun y => X d ((Rect.unit (s := S256x1024) ![64 * (g % 4), 0] S64x1024.size (inbG g)).emb y)

/-- What slot `j` of stream `ch` on device `c` holds once it is filled. -/
def sv (X : Blocks F) (c : Dev nD) (ch : Fin 8) (j : ℕ) : Vec F S64x1024 .i32 := gv X (org ch j c) ch.val

theorem sv_tgt (X : Blocks F) (c : Dev nD) (ch : Fin 8) (j : ℕ) : sv X (tgt ch c) ch (j + 1) = sv X c ch j := by
  unfold sv; rw [org_tgt]

/-- Slot `j` of stream `ch` on device `c`, at share `q`, holding `x`. -/
def slotP (c : Dev nD) (ch : Fin 8) (j : ℕ) (q : PosShare TreeShare) (x : Vec F S64x1024 .i32) : sProp 𝕄 :=
  (slot ch j).view.loc (c : Thread nD τ) ↦[(slot ch j).view.set]{q} (slot ch j).view.rep x
/-- Slot `j` of stream `ch` on device `c`, holding anything. -/
def slotAny (c : Dev nD) (ch : Fin 8) (j : ℕ) : sProp 𝕄 :=
  iprop(∃ f, (slot ch j).view.loc (c : Thread nD τ) ↦[(slot ch j).view.set]{fullShare} f)

instance slotP_storable (c : Dev nD) (ch : Fin 8) (j : ℕ) (q : PosShare TreeShare) (x : Vec F S64x1024 .i32) :
    BI.Storable (upEmb : UEmb _ 𝕄) (slotP c ch j q x) := by unfold slotP; infer_instance
instance slotAny_storable (c : Dev nD) (ch : Fin 8) (j : ℕ) :
    BI.Storable (upEmb : UEmb _ 𝕄) (slotAny (F := F) c ch j) := by unfold slotAny; infer_instance

/-- A filled slot is a slot. -/
theorem slotAny_of (c : Dev nD) (ch : Fin 8) (j : ℕ) (x : Vec F S64x1024 .i32) :
    slotP c ch j fullShare x ⊢ (slotAny c ch j : sProp 𝕄) := by
  unfold slotP slotAny; iintro H; iexists _; iexact H

/-- A slot whole is its two halves. -/
theorem slotP_halves (c : Dev nD) (ch : Fin 8) (j : ℕ) (x : Vec F S64x1024 .i32) :
    (slotP c ch j fullShare x : sProp 𝕄) ⊣⊢ iprop(slotP c ch j fullShare.left x ∗ slotP c ch j fullShare.right x) :=
  pointsTo_share (PosShare.mem_left_op_right fullShare)

/-- The units a hop's copy counts. -/
def N : ℕ := (slot 0 0).view.dmaCredit
theorem credit_eq (ch : Fin 8) (j : ℕ) : (slot ch j).view.dmaCredit = N := by
  fin_cases ch <;> rfl
theorem N_pos : 0 < N := View.dmaCredit_pos _ (by decide)

/-! ## The schedule -/

/-- The streams of one direction: to the next device, or to the previous one. -/
def dirs (d : Bool) : Finset (Fin 8) := Finset.univ.filter fun ch => decide (ch.val < 4) = d

/-- What an entry signal hands device `c`: the slots of the neighbour's landing buffers that `c` fills, and that the
    neighbour's receive cells are open. -/
def barPay (c : Dev nD) (d : Bool) : sProp 𝕄 :=
  bigSep (dirs d) fun ch => iprop((bigSep (Finset.range (len ch)) fun h => slotAny (tgt ch c) ch (h + 1))
    ∗ reached ER (recvCell (tgt ch c) ch 0) 0)
/-- What a hop's sending half hands the sender back. -/
def sendPay (X : Blocks F) (c : Dev nD) (ch : Fin 8) (h : ℕ) : sProp 𝕄 := slotP c ch h fullShare.left (sv X c ch h)
/-- That the device stream `ch` fills device `c` from has taken `j` hops of the opposite stream. -/
def back (c : Dev nD) (ch : Fin 8) (j : ℕ) : sProp 𝕄 := reached ER (recvCell (src ch c) (opp ch) j) (j / 2)
/-- What a hop's arrival hands device `c`. -/
def recvPay (X : Blocks F) (c : Dev nD) (ch : Fin 8) (h : ℕ) : sProp 𝕄 :=
  iprop(slotP c ch (h + 1) fullShare (sv X c ch (h + 1)) ∗ back c ch (h + 1))

instance back_persistent (c : Dev nD) (ch : Fin 8) (j : ℕ) : BI.Persistent (back (F := F) c ch j) := by
  unfold back; infer_instance

instance barPay_storable (c : Dev nD) (d : Bool) : BI.Storable (upEmb : UEmb _ 𝕄) (barPay (F := F) c d) := by
  unfold barPay; infer_instance
instance sendPay_storable (X : Blocks F) (c : Dev nD) (ch : Fin 8) (h : ℕ) :
    BI.Storable (upEmb : UEmb _ 𝕄) (sendPay X c ch h) := by unfold sendPay; infer_instance
instance recvPay_storable (X : Blocks F) (c : Dev nD) (ch : Fin 8) (h : ℕ) :
    BI.Storable (upEmb : UEmb _ 𝕄) (recvPay X c ch h) := by unfold recvPay back; infer_instance

/-- The duties of a semaphore's round. -/
def dutiesOf (r : ℕ) : SemLoc sig → Finset Bool
  | .reg _ => if r = 0 then Finset.univ else ∅
  | .dma s => if 5 ≤ s.val ∧ 2 * r + parOf s < len (chOf s) then {false} else ∅
/-- The units of a semaphore's duty. -/
def amountOf : SemLoc sig → ℕ
  | .reg _ => 1
  | .dma _ => N
theorem amountOf_pos (sm : SemLoc sig) : 0 < amountOf sm := by
  cases sm with
  | reg s => exact Nat.one_pos
  | dma s => exact N_pos
/-- What a semaphore's duty hands device `c`. -/
def payOf (X : Blocks F) (c : Dev nD) (r : ℕ) (d : Bool) : SemLoc sig → sProp 𝕄
  | .reg _ => barPay c d
  | .dma s => if IsR s then recvPay X c (chOf s) (2 * r + parOf s) else sendPay X c (chOf s) (2 * r + parOf s)

/-- The schedule of the entry cells and of the streams' cells. -/
def Rd (X : Blocks F) : Rounds.Schedule (GSem nD τ sig) Bool 𝕄 where
  duties g r := if g.1.2 = .tc then dutiesOf r g.2 else ∅
  amount g _ _ := amountOf g.2
  payload g r d := payOf X g.1.1 r d g.2
  amount_pos g _ _ _ := amountOf_pos g.2
  unitless _ := False

instance Rd_payload_storable (X : Blocks F) (g : GSem nD τ sig) (r : ℕ) (d : Bool) :
    BI.Storable (upEmb : UEmb _ 𝕄) ((Rd X).payload g r d) := by
  show BI.Storable upEmb (payOf X g.1.1 r d g.2)
  cases g.2 with
  | reg s => unfold payOf; infer_instance
  | dma s => unfold payOf; dsimp only; split <;> infer_instance

section Sched
variable (X : Blocks F) (c : Dev nD) (ch : Fin 8)

theorem half_eq (h : ℕ) : 2 * (h / 2) + h % 2 = h := Nat.div_add_mod h 2

theorem duties_eq (sm : SemLoc sig) (r : ℕ) : (Rd X).duties ((c : Thread nD τ), sm) r = dutiesOf r sm := by
  unfold Rd; dsimp only; rw [if_pos rfl]
theorem payload_eq (sm : SemLoc sig) (r : ℕ) (d : Bool) : (Rd X).payload ((c : Thread nD τ), sm) r d = payOf X c r d sm := rfl
theorem duties_bar : (Rd X).duties (barCell c) 0 = Finset.univ := rfl
theorem duties_send {h : ℕ} (hh : h < len ch) : (Rd X).duties (sendCell c ch h) (h / 2) = {false} := by
  rw [duties_eq]
  unfold dutiesOf; dsimp only
  rw [if_pos]; exact ⟨semS_ge ch h, by rw [chOf_semS, parOf_semS, half_eq]; exact hh⟩
theorem duties_recv {h : ℕ} (hh : h < len ch) : (Rd X).duties (recvCell c ch h) (h / 2) = {false} := by
  rw [duties_eq]
  unfold dutiesOf; dsimp only
  rw [if_pos]; exact ⟨semR_ge ch h, by rw [chOf_semR, parOf_semR, half_eq]; exact hh⟩
/-- Past the last hop a stream's cells have no duty; past round 0 an entry cell has none. -/
theorem duties_bar_later : ∀ r, 0 + 1 ≤ r → (Rd X).duties (barCell c) r = ∅ := fun r hr => by
  rw [duties_eq]
  unfold dutiesOf; dsimp only; rw [if_neg]; omega
theorem duties_send_later {h : ℕ} (hh : len ch ≤ h) : ∀ r, h / 2 ≤ r → (Rd X).duties (sendCell c ch h) r = ∅ := fun r hr => by
  rw [duties_eq]
  unfold dutiesOf; dsimp only
  rw [if_neg]; rw [chOf_semS, parOf_semS]; rintro ⟨-, h'⟩; omega
theorem duties_recv_later {h : ℕ} (hh : len ch ≤ h) : ∀ r, h / 2 ≤ r → (Rd X).duties (recvCell c ch h) r = ∅ := fun r hr => by
  rw [duties_eq]
  unfold dutiesOf; dsimp only
  rw [if_neg]; rw [chOf_semR, parOf_semR]; rintro ⟨-, h'⟩; omega

theorem amount_bar (r : ℕ) (d : Bool) : (Rd X).amount (barCell c) r d = 1 := rfl
theorem amount_send (h r : ℕ) (d : Bool) : (Rd X).amount (sendCell c ch h) r d = N := rfl
theorem amount_recv (h r : ℕ) (d : Bool) : (Rd X).amount (recvCell c ch h) r d = N := rfl

theorem expect_bar : (Rd X).expect (barCell c) 0 = 2 := by
  unfold Schedule.expect Schedule.amountOf; rw [duties_bar]; rfl
theorem expect_send {h : ℕ} (hh : h < len ch) : (Rd X).expect (sendCell c ch h) (h / 2) = N := by
  unfold Schedule.expect Schedule.amountOf; rw [duties_send X c ch hh, Finset.sum_singleton, amount_send]
theorem expect_recv {h : ℕ} (hh : h < len ch) : (Rd X).expect (recvCell c ch h) (h / 2) = N := by
  unfold Schedule.expect Schedule.amountOf; rw [duties_recv X c ch hh, Finset.sum_singleton, amount_recv]

theorem payload_bar (d : Bool) : (Rd X).payload (barCell c) 0 d = barPay c d := rfl
theorem payload_send (h : ℕ) (d : Bool) : (Rd X).payload (sendCell c ch h) (h / 2) d = sendPay X c ch h := by
  rw [payload_eq]
  unfold payOf; dsimp only
  rw [if_neg (not_isR_semS ch h), chOf_semS, parOf_semS, half_eq]
theorem payload_recv (h : ℕ) (d : Bool) : (Rd X).payload (recvCell c ch h) (h / 2) d = recvPay X c ch h := by
  rw [payload_eq]
  unfold payOf; dsimp only
  rw [if_pos (isR_semR ch h), chOf_semR, parOf_semR, half_eq]

/-- The payloads of a round, none yet taken. -/
theorem rest_send {h : ℕ} (hh : h < len ch) :
    bigSep ((Rd X).duties (sendCell c ch h) (h / 2) \ ∅) (fun u => (Rd X).payload (sendCell c ch h) (h / 2) u) = (sendPay X c ch h : sProp 𝕄) := by
  rw [Finset.sdiff_empty, duties_send X c ch hh, bigSep_singleton, payload_send]
theorem rest_recv {h : ℕ} (hh : h < len ch) :
    bigSep ((Rd X).duties (recvCell c ch h) (h / 2) \ ∅) (fun u => (Rd X).payload (recvCell c ch h) (h / 2) u) = (recvPay X c ch h : sProp 𝕄) := by
  rw [Finset.sdiff_empty, duties_recv X c ch hh, bigSep_singleton, payload_recv]
theorem rest_bar :
    bigSep ((Rd X).duties (barCell c) 0 \ ∅) (fun u => (Rd X).payload (barCell c) 0 u) = (iprop(barPay c true ∗ barPay c false) : sProp 𝕄) := by
  rw [Finset.sdiff_empty, duties_bar, bigSep_congr (Ψ := fun u => (barPay c u : sProp 𝕄)) (fun u _ => payload_bar X c u)]
  rw [show (Finset.univ : Finset Bool) = {true, false} from rfl, bigSep_insert (by decide), bigSep_singleton]
  rfl

end Sched

/-! ## What a device owes, and the levels -/

/-- What device `c` owes once stream `ch` has started its hops below `s ch`: the arrivals of the later ones. -/
def owed (c : Dev nD) (s : Fin 8 → ℕ) : CellTallies nD τ sig ℕ :=
  ∑ ch : Fin 8, ∑ h ∈ Finset.Ico (s ch) (len ch), tallyAt (recvCell (tgt ch c) ch h) h N

/-- What device `c` owes at launch: every arrival, and a signal to either neighbour. -/
def O₀ (c : Dev nD) : CellTallies nD τ sig ℕ :=
  (owed c (fun _ => 0) + tallyAt (barCell (nxt c)) 0 1) + tallyAt (barCell (prv c)) 0 1

/-- The indices at which a cell's units may be owed. -/
def L (g : GSem nD τ sig) : Finset ℕ := if g.1.2 = .tc then Finset.range 16 else ∅
/-- The level of a cell's index: an arrival's goes up with the hop. -/
def lv (g : GSem nD τ sig) (u : ℕ) : ℕ := match g.2 with
  | .reg _ => 1
  | .dma s => if IsR s then u + 2 else 0

theorem L_of_ne (g : GSem nD τ sig) (h : g.1.2 ≠ .tc) : L g = ∅ := if_neg h
theorem mem_L (c : Dev nD) (sm : SemLoc sig) {u : ℕ} (h : u < 16) : u ∈ L ((c : Thread nD τ), sm) := by
  unfold L; rw [if_pos rfl]; exact Finset.mem_range.mpr h
theorem lv_recv (c : Dev nD) (ch : Fin 8) (h u : ℕ) : lv (recvCell c ch h) u = u + 2 := if_pos (isR_semR ch h)
theorem lv_send (c : Dev nD) (ch : Fin 8) (h u : ℕ) : lv (sendCell c ch h) u = 0 := if_neg (not_isR_semS ch h)
theorem lv_stage (c : Dev nD) (s : DmaSem sig) (hs : s.val < 5) (u : ℕ) : lv ((c : Thread nD τ), .dma s) u = 0 :=
  if_neg fun h => by have := h.1; omega
theorem len_le (ch : Fin 8) : len ch ≤ 8 := by revert ch; decide

/-- What is owed is owed at a later hop's arrival. -/
theorem owed_pos {c : Dev nD} {s : Fin 8 → ℕ} {g : GSem nD τ sig} {u : ℕ} (h : 0 < owed c s g u) :
    ∃ ch, s ch ≤ u ∧ u < len ch ∧ g = recvCell (tgt ch c) ch u := by
  unfold owed at h
  rw [Finset.sum_apply, Finsupp.finset_sum_apply] at h
  obtain ⟨ch, -, h⟩ := Finset.exists_ne_zero_of_sum_ne_zero (Nat.pos_iff_ne_zero.mp h)
  rw [Finset.sum_apply, Finsupp.finset_sum_apply] at h
  obtain ⟨k, hk, h⟩ := Finset.exists_ne_zero_of_sum_ne_zero h
  rw [tallyAt_apply] at h
  split at h
  · next e => obtain ⟨rfl, rfl⟩ := e; exact ⟨ch, (Finset.mem_Ico.mp hk).1, (Finset.mem_Ico.mp hk).2, rfl⟩
  · exact absurd rfl h

/-- Starting a hop pays its arrival. -/
theorem owed_send (c : Dev nD) (s : Fin 8 → ℕ) (ch : Fin 8) (h : s ch < len ch) :
    owed c s = owed c (Function.update s ch (s ch + 1)) + tallyAt (recvCell (tgt ch c) ch (s ch)) (s ch) N := by
  unfold owed
  rw [← Finset.add_sum_erase _ _ (Finset.mem_univ ch), ← Finset.add_sum_erase Finset.univ (fun ch' => ∑ h ∈ Finset.Ico (Function.update s ch (s ch + 1) ch') (len ch'), tallyAt (recvCell (tgt ch' c) ch' h) h N) (Finset.mem_univ ch)]
  rw [Function.update_self, Idealize.ShloMosaic.Ring.sum_Ico_succ h]
  rw [Finset.sum_congr rfl (g := fun ch' => ∑ h ∈ Finset.Ico (Function.update s ch (s ch + 1) ch') (len ch'), tallyAt (recvCell (tgt ch' c) ch' h) h N)
    (fun ch' hc => by rw [Function.update_of_ne (Finset.ne_of_mem_erase hc)])]
  rw [add_comm (tallyAt _ _ _) _, add_assoc, add_assoc, add_comm (tallyAt _ _ _) _]

/-- Nothing is owed once every hop is started. -/
theorem owed_done (c : Dev nD) (s : Fin 8 → ℕ) (h : ∀ ch, len ch ≤ s ch) : owed c s = 0 := by
  unfold owed
  refine Finset.sum_eq_zero fun ch _ => ?_
  rw [Finset.Ico_eq_empty (by have := h ch; omega), Finset.sum_empty]

/-- What is owed at launch is owed above level 0, at indices that count. -/
theorem O₀_pos {c : Dev nD} {g : GSem nD τ sig} {u : ℕ} (h : 0 < O₀ c g u) : u ∈ L g ∧ 0 < lv g u := by
  unfold O₀ at h
  rw [Pi.add_apply, Finsupp.add_apply, Pi.add_apply, Finsupp.add_apply, tallyAt_apply, tallyAt_apply] at h
  by_cases h1 : g = barCell (nxt c) ∧ u = 0
  · obtain ⟨rfl, rfl⟩ := h1; exact ⟨mem_L _ _ (by decide), Nat.one_pos⟩
  by_cases h2 : g = barCell (prv c) ∧ u = 0
  · obtain ⟨rfl, rfl⟩ := h2; exact ⟨mem_L _ _ (by decide), Nat.one_pos⟩
  rw [if_neg h1, if_neg h2] at h
  obtain ⟨ch, -, hu, rfl⟩ := owed_pos (c := c) (s := fun _ => 0) (g := g) (u := u) (by omega)
  exact ⟨mem_L _ _ (by have := len_le ch; omega), by rw [lv_recv]; omega⟩

/-- A wait below everything owed may be made. -/
theorem mayWait_of (c : Dev nD) (sm : SemLoc sig) (u : ℕ) (hu : u < 16) (s : Fin 8 → ℕ)
    (h : ∀ ch k, s ch ≤ k → k < len ch → lv ((c : Thread nD τ), sm) u < k + 2) :
    (levAts L lv : sProp 𝕄) ⊢ MayWait (c : Thread nD τ) sm u (owed c s) :=
  MayOwe.of_cut (L := L) (lev := lv) (lv ((c : Thread nD τ), sm) u)
    (fun p hp => by rw [Finset.mem_singleton.mp hp]; exact mem_L c sm hu)
    (fun g k hg => by obtain ⟨ch, -, hk, rfl⟩ := owed_pos hg; exact mem_L _ _ (by have := len_le ch; omega))
    (fun p hp => by rw [Finset.mem_singleton.mp hp])
    (fun g k hg => by obtain ⟨ch, hs, hk, rfl⟩ := owed_pos hg; rw [lv_recv]; exact h ch k hs hk)

end Cert.Proof.Run
end
-- ==== Proof.Slots.lean ====
/-
  The slots of the landing buffers.

  A landing buffer is its slots, held apart; a load of a slot reads what the slot holds, and a store into slot 0 fills
  it. Each fact is stated once for a nine-slot and once for an eight-slot buffer, then read off for every stream.
-/
module

public import proofs.«01_k».proof.Proof.Protocol

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No function is called but the kernel's own. -/
abbrev 𝒱₀ : Variants := Variants.none

/-- The weakest precondition of a piece of the body on device `c`. -/
abbrev WP (c : Dev nD) {α : Type} (p : BProg (F := F) α) (Q : α → sProp 𝕄) : sProp 𝕄 :=
  wp frame (wpE (defs₀ (F := F)) 𝒱₀ (c : Thread nD τ) none) Set.univ p Q

/-! ## A buffer is its slots -/

theorem view9_set (b : Memref sig .tc .vmem S9x64x1024 .i32) (j : ℕ) : (view9 b j).view.set = (rect9 j).set.map b.view.emb :=
  (View.set_reshape _ _).trans (View.set_slice _ _)
theorem view8_set (b : Memref sig .tc .vmem S8x64x1024 .i32) (j : ℕ) : (view8 b j).view.set = (rect8 j).set.map b.view.emb :=
  (View.set_reshape _ _).trans (View.set_slice _ _)

theorem rect9_disjoint : ∀ j ∈ Finset.range 9, ∀ j' ∈ Finset.range 9, j ≠ j' → Disjoint (rect9 j).set (rect9 j').set := by
  intro j hj j' hj' hne
  have h1 := Finset.mem_range.mp hj
  have h2 := Finset.mem_range.mp hj'
  refine Rect.unit_disjoint 0 ?_
  show j % 9 + 1 ≤ j' % 9 ∨ j' % 9 + 1 ≤ j % 9
  omega
theorem rect8_disjoint : ∀ j ∈ Finset.range 8, ∀ j' ∈ Finset.range 8, j ≠ j' → Disjoint (rect8 j).set (rect8 j').set := by
  intro j hj j' hj' hne
  have h1 := Finset.mem_range.mp hj
  have h2 := Finset.mem_range.mp hj'
  refine Rect.unit_disjoint 0 ?_
  show j % 8 + 1 ≤ j' % 8 ∨ j' % 8 + 1 ≤ j % 8
  omega

theorem view9_disjoint (b : Memref sig .tc .vmem S9x64x1024 .i32) :
    ∀ j ∈ Finset.range 9, ∀ j' ∈ Finset.range 9, j ≠ j' → Disjoint (view9 b j).view.set (view9 b j').view.set := by
  intro j hj j' hj' hne
  rw [view9_set, view9_set, Finset.disjoint_map]; exact rect9_disjoint j hj j' hj' hne
theorem view8_disjoint (b : Memref sig .tc .vmem S8x64x1024 .i32) :
    ∀ j ∈ Finset.range 8, ∀ j' ∈ Finset.range 8, j ≠ j' → Disjoint (view8 b j).view.set (view8 b j').view.set := by
  intro j hj j' hj' hne
  rw [view8_set, view8_set, Finset.disjoint_map]; exact rect8_disjoint j hj j' hj' hne

theorem view9_cover (b : Memref sig .tc .vmem S9x64x1024 .i32) :
    (Finset.range 9).biUnion (fun j => (view9 b j).view.set) = b.view.set := by
  ext i
  constructor
  · intro h
    obtain ⟨j, -, hj⟩ := Finset.mem_biUnion.mp h
    rw [view9_set] at hj
    obtain ⟨x, -, rfl⟩ := Finset.mem_map.mp hj
    exact Finset.mem_map.mpr ⟨x, Finset.mem_univ _, rfl⟩
  · intro h
    obtain ⟨x, -, rfl⟩ := Finset.mem_map.mp h
    have h0 : (x 0).val < 9 := (x 0).isLt
    have h1 : (x 1).val < 64 := (x 1).isLt
    have h2 : (x 2).val < 1024 := (x 2).isLt
    refine Finset.mem_biUnion.mpr ⟨(x 0).val, Finset.mem_range.mpr h0, ?_⟩
    rw [view9_set]
    refine Finset.mem_map.mpr ⟨x, Rect.mem_set_unit.mpr fun a => ?_, rfl⟩
    fin_cases a
    · show (x 0).val % 9 ≤ (x 0).val ∧ (x 0).val < (x 0).val % 9 + 1; omega
    · show 0 ≤ (x 1).val ∧ (x 1).val < 0 + 64; omega
    · show 0 ≤ (x 2).val ∧ (x 2).val < 0 + 1024; omega
theorem view8_cover (b : Memref sig .tc .vmem S8x64x1024 .i32) :
    (Finset.range 8).biUnion (fun j => (view8 b j).view.set) = b.view.set := by
  ext i
  constructor
  · intro h
    obtain ⟨j, -, hj⟩ := Finset.mem_biUnion.mp h
    rw [view8_set] at hj
    obtain ⟨x, -, rfl⟩ := Finset.mem_map.mp hj
    exact Finset.mem_map.mpr ⟨x, Finset.mem_univ _, rfl⟩
  · intro h
    obtain ⟨x, -, rfl⟩ := Finset.mem_map.mp h
    have h0 : (x 0).val < 8 := (x 0).isLt
    have h1 : (x 1).val < 64 := (x 1).isLt
    have h2 : (x 2).val < 1024 := (x 2).isLt
    refine Finset.mem_biUnion.mpr ⟨(x 0).val, Finset.mem_range.mpr h0, ?_⟩
    rw [view8_set]
    refine Finset.mem_map.mpr ⟨x, Rect.mem_set_unit.mpr fun a => ?_, rfl⟩
    fin_cases a
    · show (x 0).val % 8 ≤ (x 0).val ∧ (x 0).val < (x 0).val % 8 + 1; omega
    · show 0 ≤ (x 1).val ∧ (x 1).val < 0 + 64; omega
    · show 0 ≤ (x 2).val ∧ (x 2).val < 0 + 1024; omega
/-- Stream `ch`'s landing buffer. -/
def bufRef (ch : Fin 8) : Ref sig .tc := match ch with
  | 0 => cc0_scratch0 | 1 => cc0_scratch1 | 2 => cc0_scratch2 | 3 => cc0_scratch3
  | 4 => cc0_scratch4 | 5 => cc0_scratch5 | 6 => cc0_scratch6 | 7 => cc0_scratch7

/-- A landing buffer whole, holding anything. -/
def bufAny (c : Dev nD) (ch : Fin 8) : sProp 𝕄 :=
  iprop(∃ f : Buf (Elt F) ((c : Thread nD τ).loc (bufRef ch)), ((c : Thread nD τ).loc (bufRef ch)) ↦{fullShare} f)

theorem split9 (c : Dev nD) (b : Memref sig .tc .vmem S9x64x1024 .i32) :
    (iprop(∃ f, b.view.loc (c : Thread nD τ) ↦[b.view.set]{fullShare} f) : sProp 𝕄)
      ⊢ bigSep (Finset.range 9) fun j => iprop(∃ f, (view9 b j).view.loc (c : Thread nD τ) ↦[(view9 b j).view.set]{fullShare} f) := by
  iintro ⟨%f, H⟩
  ihave H' := (Entails.of_eq (by rw [← view9_cover b, pointsTo_biUnion _ _ (view9_disjoint b)]) :
    (b.view.loc (c : Thread nD τ) ↦[b.view.set]{fullShare} f : sProp 𝕄) ⊢ bigSep (Finset.range 9) fun j => b.view.loc (c : Thread nD τ) ↦[(view9 b j).view.set]{fullShare} f) $$ H
  have hm : (bigSep (Finset.range 9) fun j => (b.view.loc (c : Thread nD τ) ↦[(view9 b j).view.set]{fullShare} f : sProp 𝕄))
      ⊢ bigSep (Finset.range 9) fun j => iprop(∃ f, (view9 b j).view.loc (c : Thread nD τ) ↦[(view9 b j).view.set]{fullShare} f) := by
    exact big_mono fun j _ => exists_intro_trans f .rfl
  iapply hm; iexact H'
theorem split8 (c : Dev nD) (b : Memref sig .tc .vmem S8x64x1024 .i32) :
    (iprop(∃ f, b.view.loc (c : Thread nD τ) ↦[b.view.set]{fullShare} f) : sProp 𝕄)
      ⊢ bigSep (Finset.range 8) fun j => iprop(∃ f, (view8 b j).view.loc (c : Thread nD τ) ↦[(view8 b j).view.set]{fullShare} f) := by
  iintro ⟨%f, H⟩
  ihave H' := (Entails.of_eq (by rw [← view8_cover b, pointsTo_biUnion _ _ (view8_disjoint b)]) :
    (b.view.loc (c : Thread nD τ) ↦[b.view.set]{fullShare} f : sProp 𝕄) ⊢ bigSep (Finset.range 8) fun j => b.view.loc (c : Thread nD τ) ↦[(view8 b j).view.set]{fullShare} f) $$ H
  have hm : (bigSep (Finset.range 8) fun j => (b.view.loc (c : Thread nD τ) ↦[(view8 b j).view.set]{fullShare} f : sProp 𝕄))
      ⊢ bigSep (Finset.range 8) fun j => iprop(∃ f, (view8 b j).view.loc (c : Thread nD τ) ↦[(view8 b j).view.set]{fullShare} f) := by
    exact big_mono fun j _ => exists_intro_trans f .rfl
  iapply hm; iexact H'

theorem join9 (c : Dev nD) (b : Memref sig .tc .vmem S9x64x1024 .i32) (x : ℕ → Vec F S64x1024 .i32) :
    bigSep (Finset.range 9) (fun j => ((view9 b j).view.loc (c : Thread nD τ) ↦[(view9 b j).view.set]{fullShare} (view9 b j).view.rep (x j) : sProp 𝕄))
      ⊢ iprop(∃ f, b.view.loc (c : Thread nD τ) ↦[b.view.set]{fullShare} f) := by
  refine (pointsTo_biUnion_join (ℓ := b.view.loc (c : Thread nD τ)) _ (fun j => (view9 b j).view.set) (fun j => (view9 b j).view.rep (x j)) ((view9 b 0).view.rep (x 0)) (view9_disjoint b)).trans ?_
  rw [view9_cover b]
  iintro ⟨%g, -, H⟩; iexists g; iexact H
theorem join8 (c : Dev nD) (b : Memref sig .tc .vmem S8x64x1024 .i32) (x : ℕ → Vec F S64x1024 .i32) :
    bigSep (Finset.range 8) (fun j => ((view8 b j).view.loc (c : Thread nD τ) ↦[(view8 b j).view.set]{fullShare} (view8 b j).view.rep (x j) : sProp 𝕄))
      ⊢ iprop(∃ f, b.view.loc (c : Thread nD τ) ↦[b.view.set]{fullShare} f) := by
  refine (pointsTo_biUnion_join (ℓ := b.view.loc (c : Thread nD τ)) _ (fun j => (view8 b j).view.set) (fun j => (view8 b j).view.rep (x j)) ((view8 b 0).view.rep (x 0)) (view8_disjoint b)).trans ?_
  rw [view8_cover b]
  iintro ⟨%g, -, H⟩; iexists g; iexact H

theorem bufAny_of (c : Dev nD) (r : Ref sig .tc) :
    (iprop(∃ f : Buf (Elt F) ((c : Thread nD τ).loc r), ((c : Thread nD τ).loc r) ↦{fullShare} f) : sProp 𝕄)
      = iprop(∃ f, (Memref.whole r).view.loc (c : Thread nD τ) ↦[(Memref.whole r).view.set]{fullShare} f) := by
  rw [show (Memref.whole r).view.set = Finset.univ from View.set_whole _]

/-- A landing buffer is its slots. -/
theorem buf_split (c : Dev nD) (ch : Fin 8) :
    (bufAny c ch : sProp 𝕄) ⊢ bigSep (Finset.range (len ch + 1)) fun j => slotAny c ch j := by
  unfold bufAny; rw [bufAny_of]
  fin_cases ch
  · exact split9 c (Memref.whole cc0_scratch0)
  · exact split9 c (Memref.whole cc0_scratch1)
  · exact split8 c (Memref.whole cc0_scratch2)
  · exact split8 c (Memref.whole cc0_scratch3)
  · exact split8 c (Memref.whole cc0_scratch4)
  · exact split8 c (Memref.whole cc0_scratch5)
  · exact split9 c (Memref.whole cc0_scratch6)
  · exact split9 c (Memref.whole cc0_scratch7)

/-- The filled slots are a landing buffer. -/
theorem buf_join (c : Dev nD) (ch : Fin 8) (x : ℕ → Vec F S64x1024 .i32) :
    bigSep (Finset.range (len ch + 1)) (fun j => slotP c ch j fullShare (x j)) ⊢ (bufAny c ch : sProp 𝕄) := by
  unfold bufAny; rw [bufAny_of]
  fin_cases ch
  · exact join9 c (Memref.whole cc0_scratch0) x
  · exact join9 c (Memref.whole cc0_scratch1) x
  · exact join8 c (Memref.whole cc0_scratch2) x
  · exact join8 c (Memref.whole cc0_scratch3) x
  · exact join8 c (Memref.whole cc0_scratch4) x
  · exact join8 c (Memref.whole cc0_scratch5) x
  · exact join9 c (Memref.whole cc0_scratch6) x
  · exact join9 c (Memref.whole cc0_scratch7) x

/-! ## Loads and stores of a slot -/

/-- A load of a slot of a nine-slot buffer reads what it holds. -/
theorem wp_load9 (c : Dev nD) (b : Memref sig .tc .vmem S9x64x1024 .i32) (j : ℕ) (q : PosShare TreeShare) (x : Vec F S64x1024 .i32)
    {α : Type} (k : Vec F S1x64x1024 .i32 → BProg (F := F) α) (Q : α → sProp 𝕄) (G : sProp 𝕄)
    (hk : ∀ v, shapeCast S64x1024 v shapeCasts_S1x64x1024_S64x1024 = x →
      iprop(((view9 b j).view.loc (c : Thread nD τ) ↦[(view9 b j).view.set]{q} (view9 b j).view.rep x) ∗ G) ⊢ WP c (k v) Q) :
    iprop(((view9 b j).view.loc (c : Thread nD τ) ↦[(view9 b j).view.set]{q} (view9 b j).view.rep x) ∗ G) ⊢ WP c (load9 b j >>= k) Q := by
  have h := hk (b.view.readAt (Elt F) (rect9 j).toLoadRect ((view9 b j).view.rep x)) ((view9 b j).view.read_rep (Val := Elt F) x)
  simp only [Prog.lift, Prog.bind_op, Prog.bind_ret, Prog.pure_eq_ret]
  iintro ⟨H, HG⟩
  iapply (wp_load 𝒱₀ (c : Thread nD τ) none Set.univ (m := b) (r := (rect9 j).toLoadRect) (S := (view9 b j).view.set)
    (by rw [view9_set]; exact Finset.Subset.refl _)) $$ [H]
  · iexact H
  iintro H
  iapply h
  isplitl [H]
  · iexact H
  · iexact HG
/-- A load of a slot of an eight-slot buffer reads what it holds. -/
theorem wp_load8 (c : Dev nD) (b : Memref sig .tc .vmem S8x64x1024 .i32) (j : ℕ) (q : PosShare TreeShare) (x : Vec F S64x1024 .i32)
    {α : Type} (k : Vec F S1x64x1024 .i32 → BProg (F := F) α) (Q : α → sProp 𝕄) (G : sProp 𝕄)
    (hk : ∀ v, shapeCast S64x1024 v shapeCasts_S1x64x1024_S64x1024 = x →
      iprop(((view8 b j).view.loc (c : Thread nD τ) ↦[(view8 b j).view.set]{q} (view8 b j).view.rep x) ∗ G) ⊢ WP c (k v) Q) :
    iprop(((view8 b j).view.loc (c : Thread nD τ) ↦[(view8 b j).view.set]{q} (view8 b j).view.rep x) ∗ G) ⊢ WP c (load8 b j >>= k) Q := by
  have h := hk (b.view.readAt (Elt F) (rect8 j).toLoadRect ((view8 b j).view.rep x)) ((view8 b j).view.read_rep (Val := Elt F) x)
  simp only [Prog.lift, Prog.bind_op, Prog.bind_ret, Prog.pure_eq_ret]
  iintro ⟨H, HG⟩
  iapply (wp_load 𝒱₀ (c : Thread nD τ) none Set.univ (m := b) (r := (rect8 j).toLoadRect) (S := (view8 b j).view.set)
    (by rw [view8_set]; exact Finset.Subset.refl _)) $$ [H]
  · iexact H
  iintro H
  iapply h
  isplitl [H]
  · iexact H
  · iexact HG

/-- A load of a slot reads what it holds. -/
theorem wp_loadSlot (c : Dev nD) (ch : Fin 8) (j : ℕ) (q : PosShare TreeShare) (x : Vec F S64x1024 .i32)
    {α : Type} (k : Vec F S1x64x1024 .i32 → BProg (F := F) α) (Q : α → sProp 𝕄) (G : sProp 𝕄)
    (hk : ∀ v, shapeCast S64x1024 v shapeCasts_S1x64x1024_S64x1024 = x → iprop(slotP c ch j q x ∗ G) ⊢ WP c (k v) Q) :
    iprop(slotP c ch j q x ∗ G) ⊢ WP c (loadSlot ch j >>= k) Q := by
  fin_cases ch
  · exact wp_load9 c (Memref.whole cc0_scratch0) j q x k Q G hk
  · exact wp_load9 c (Memref.whole cc0_scratch1) j q x k Q G hk
  · exact wp_load8 c (Memref.whole cc0_scratch2) j q x k Q G hk
  · exact wp_load8 c (Memref.whole cc0_scratch3) j q x k Q G hk
  · exact wp_load8 c (Memref.whole cc0_scratch4) j q x k Q G hk
  · exact wp_load8 c (Memref.whole cc0_scratch5) j q x k Q G hk
  · exact wp_load9 c (Memref.whole cc0_scratch6) j q x k Q G hk
  · exact wp_load9 c (Memref.whole cc0_scratch7) j q x k Q G hk

/-- Reshaping forth and back changes nothing. -/
theorem shapeCast_back (x : Vec F S64x1024 .i32) (y : S64x1024.Idx) :
    shapeCast S1x64x1024 x shapeCasts_S64x1024_S1x64x1024 (Shape.reshapeEquiv squeezes_S1x64x1024_S64x1024.numel_eq y) = x y := by
  show x (Shape.reshapeEquiv _ (Shape.reshapeEquiv _ y)) = x y
  rw [Shape.reshapeEquiv_reshapeEquiv, Shape.reshapeEquiv_self]

/-- A store of `x` into slot 0 of a nine-slot buffer fills it with `x`. -/
theorem wp_store9 (c : Dev nD) (b : Memref sig .tc .vmem S9x64x1024 .i32) (x : Vec F S64x1024 .i32) (hst hm)
    (Q : PUnit → sProp 𝕄) (G : sProp 𝕄)
    (hk : iprop(((view9 b 0).view.loc (c : Thread nD τ) ↦[(view9 b 0).view.set]{fullShare} (view9 b 0).view.rep x) ∗ G) ⊢ Q ⟨⟩) :
    iprop((∃ f, (view9 b 0).view.loc (c : Thread nD τ) ↦[(view9 b 0).view.set]{fullShare} f) ∗ G)
      ⊢ WP c (Prog.lift (.store b (rect9 0) (shapeCast S1x64x1024 x shapeCasts_S64x1024_S1x64x1024) Finset.univ hst hm)) Q := by
  simp only [Prog.lift]
  iintro ⟨⟨%f, H⟩, HG⟩
  iapply (wp_store 𝒱₀ (c : Thread nD τ) none Set.univ (m := b) (r := rect9 0) (S := (view9 b 0).view.set)
    (by rw [view9_set, View.setOn_univ, View.set_slice])) $$ [H]
  · iexact H
  iintro H
  rw [wp_ret]
  imodintro
  iapply hk
  isplitl [H]
  · iapply (pointsTo_rep_of_read (c : Thread nD τ) (view9 b 0) ((b.access (rect9 0)).write (Elt F) f (shapeCast S1x64x1024 x shapeCasts_S64x1024_S1x64x1024) Finset.univ) fullShare x (by
      funext y
      refine (congrFun (View.read_write_univ (v := (b.access (rect9 0))) f (shapeCast S1x64x1024 x shapeCasts_S64x1024_S1x64x1024)) (Shape.reshapeEquiv squeezes_S1x64x1024_S64x1024.numel_eq y)).trans ?_
      exact shapeCast_back x y))
    iexact H
  · iexact HG

/-- A store of `x` into slot 0 of a eight-slot buffer fills it with `x`. -/
theorem wp_store8 (c : Dev nD) (b : Memref sig .tc .vmem S8x64x1024 .i32) (x : Vec F S64x1024 .i32) (hst hm)
    (Q : PUnit → sProp 𝕄) (G : sProp 𝕄)
    (hk : iprop(((view8 b 0).view.loc (c : Thread nD τ) ↦[(view8 b 0).view.set]{fullShare} (view8 b 0).view.rep x) ∗ G) ⊢ Q ⟨⟩) :
    iprop((∃ f, (view8 b 0).view.loc (c : Thread nD τ) ↦[(view8 b 0).view.set]{fullShare} f) ∗ G)
      ⊢ WP c (Prog.lift (.store b (rect8 0) (shapeCast S1x64x1024 x shapeCasts_S64x1024_S1x64x1024) Finset.univ hst hm)) Q := by
  simp only [Prog.lift]
  iintro ⟨⟨%f, H⟩, HG⟩
  iapply (wp_store 𝒱₀ (c : Thread nD τ) none Set.univ (m := b) (r := rect8 0) (S := (view8 b 0).view.set)
    (by rw [view8_set, View.setOn_univ, View.set_slice])) $$ [H]
  · iexact H
  iintro H
  rw [wp_ret]
  imodintro
  iapply hk
  isplitl [H]
  · iapply (pointsTo_rep_of_read (c : Thread nD τ) (view8 b 0) ((b.access (rect8 0)).write (Elt F) f (shapeCast S1x64x1024 x shapeCasts_S64x1024_S1x64x1024) Finset.univ) fullShare x (by
      funext y
      refine (congrFun (View.read_write_univ (v := (b.access (rect8 0))) f (shapeCast S1x64x1024 x shapeCasts_S64x1024_S1x64x1024)) (Shape.reshapeEquiv squeezes_S1x64x1024_S64x1024.numel_eq y)).trans ?_
      exact shapeCast_back x y))
    iexact H
  · iexact HG

/-- A store of `x` into slot 0 fills it with `x`. -/
theorem wp_storeSlot (c : Dev nD) (ch : Fin 8) (x : Vec F S64x1024 .i32) (Q : PUnit → sProp 𝕄) (G : sProp 𝕄)
    (hk : iprop(slotP c ch 0 fullShare x ∗ G) ⊢ Q ⟨⟩) :
    iprop(slotAny c ch 0 ∗ G) ⊢ WP c (storeSlot ch (shapeCast S1x64x1024 x shapeCasts_S64x1024_S1x64x1024)) Q := by
  fin_cases ch
  · exact wp_store9 c (Memref.whole cc0_scratch0) x _ _ Q G hk
  · exact wp_store9 c (Memref.whole cc0_scratch1) x _ _ Q G hk
  · exact wp_store8 c (Memref.whole cc0_scratch2) x _ _ Q G hk
  · exact wp_store8 c (Memref.whole cc0_scratch3) x _ _ Q G hk
  · exact wp_store8 c (Memref.whole cc0_scratch4) x _ _ Q G hk
  · exact wp_store8 c (Memref.whole cc0_scratch5) x _ _ Q G hk
  · exact wp_store9 c (Memref.whole cc0_scratch6) x _ _ Q G hk
  · exact wp_store9 c (Memref.whole cc0_scratch7) x _ _ Q G hk

end Cert.Proof.Run
end
-- ==== Proof.Steps.lean ====
/-
  The ring's two steps.

  `Chan` is what a device holds of one stream between two actions: the filled slots, the rights to start the later
  hops, the credits to wait for them, and its place on the stream's cells. Starting a hop and waiting for it take one
  `Chan` to the next, whatever else the device holds.
-/
module

public import proofs.«01_k».proof.Proof.Slots

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The records -/

theorem osem_send (ch : Fin 8) (h : ℕ) : ∃ k : Fin 8 × Fin 4, osem k = .dma (semS ch h) :=
  ⟨(ch, ⟨h % 2, by omega⟩), by
    unfold osem; dsimp only; rw [if_pos (by omega)]; exact congrArg _ (semS_mod (by omega))⟩
theorem osem_recv (ch : Fin 8) (h : ℕ) : ∃ k : Fin 8 × Fin 4, osem k = .dma (semR ch h) :=
  ⟨(ch, ⟨2 + h % 2, by omega⟩), by
    unfold osem; dsimp only; rw [if_neg (by omega)]; exact congrArg _ (semR_mod (by omega))⟩

/-- The invariant of every cell, at one choice of names, that every entry cell's round 0 is reached, and the levels. -/
def records (X : Blocks F) (K : GSem nD τ sig → ℕ) : sProp 𝕄 :=
  iprop((bigSep Finset.univ fun p : Dev nD × (Fin 8 × Fin 4) =>
      cellInv ER (Rd X) (K ((p.1 : Thread nD τ), osem p.2)) ((p.1 : Thread nD τ), osem p.2))
    ∗ (bigSep Finset.univ fun c : Dev nD => cellInv ER (Rd X) (K (barCell c)) (barCell c))
    ∗ (bigSep Finset.univ fun c : Dev nD => reached ER (barCell c) 0)
    ∗ levAts L lv)

instance records_persistent (X : Blocks F) (K : GSem nD τ sig → ℕ) : BI.Persistent (records X K) := by
  unfold records; infer_instance

section Records
variable (X : Blocks F) (K : GSem nD τ sig → ℕ) (c : Dev nD) (ch : Fin 8) (h : ℕ)

theorem inv_own (k : Fin 8 × Fin 4) :
    records X K ⊢ cellInv ER (Rd X) (K ((c : Thread nD τ), osem k)) ((c : Thread nD τ), osem k) := by
  unfold records
  iintro ⟨H, -⟩
  ihave H' := (big_elim (Finset.mem_univ (c, k))) $$ H
  iexact H'
theorem inv_send : records X K ⊢ cellInv ER (Rd X) (K (sendCell c ch h)) (sendCell c ch h) := by
  obtain ⟨k, hk⟩ := osem_send ch h
  have := inv_own X K c k
  rwa [hk] at this
theorem inv_recv : records X K ⊢ cellInv ER (Rd X) (K (recvCell c ch h)) (recvCell c ch h) := by
  obtain ⟨k, hk⟩ := osem_recv ch h
  have := inv_own X K c k
  rwa [hk] at this
theorem inv_bar : records X K ⊢ cellInv ER (Rd X) (K (barCell c)) (barCell c) := by
  unfold records
  iintro ⟨-, H, -⟩
  ihave H' := (big_elim (Finset.mem_univ c)) $$ H
  iexact H'
theorem reached_bar : records X K ⊢ reached ER (barCell c) 0 := by
  unfold records
  iintro ⟨-, -, H, -⟩
  ihave H' := (big_elim (Finset.mem_univ c)) $$ H
  iexact H'
theorem records_levs : (records X K : sProp 𝕄) ⊢ (levAts L lv : sProp 𝕄) := by
  unfold records
  iintro ⟨-, -, -, H⟩
  iexact H

end Records

/-! ## One stream of one device -/

/-- Device `c`'s place on the cells of stream `ch`'s hop `j`: all earlier hops of that parity are taken. -/
def posn (c : Dev nD) (ch : Fin 8) (j : ℕ) : sProp 𝕄 :=
  iprop(atPos ER (sendCell c ch j) (j / 2) ∅ 0 ∗ atPos ER (recvCell c ch j) (j / 2) ∅ 0
    ∗ reached ER (sendCell c ch j) (j / 2) ∗ reached ER (recvCell c ch j) (j / 2))

theorem sendCell_two (c : Dev nD) (ch : Fin 8) (h : ℕ) : sendCell c ch (h + 2) = sendCell c ch h :=
  congrArg (fun s => ((c : Thread nD τ), SemLoc.dma s)) (semS_mod (by omega))
theorem recvCell_two (c : Dev nD) (ch : Fin 8) (h : ℕ) : recvCell c ch (h + 2) = recvCell c ch h :=
  congrArg (fun s => ((c : Thread nD τ), SemLoc.dma s)) (semR_mod (by omega))
theorem posn_two (c : Dev nD) (ch : Fin 8) (h : ℕ) : (posn c ch (h + 1 + 1) : sProp 𝕄)
    = iprop(atPos ER (sendCell c ch h) (h / 2 + 1) ∅ 0 ∗ atPos ER (recvCell c ch h) (h / 2 + 1) ∅ 0
      ∗ reached ER (sendCell c ch h) (h / 2 + 1) ∗ reached ER (recvCell c ch h) (h / 2 + 1)) := by
  unfold posn
  rw [show h + 1 + 1 = h + 2 from rfl, sendCell_two, recvCell_two, show (h + 2) / 2 = h / 2 + 1 by omega]

/-- What it takes to start hop `h`: the duties of its two cells, and the receiver's slot. -/
def todo (c : Dev nD) (ch : Fin 8) (h : ℕ) : sProp 𝕄 :=
  iprop(dutyTok ER (sendCell c ch h) (h / 2) false ∗ dutyTok ER (recvCell (tgt ch c) ch h) (h / 2) false ∗ slotAny (tgt ch c) ch (h + 1))

/-- What it takes to wait for hop `h`'s arrival. -/
def due (c : Dev nD) (ch : Fin 8) (h : ℕ) : sProp 𝕄 := cred (tallyAt (recvCell c ch h) h N)

/-- The half of slot `b` that a running hop borrows, or the credit to wait for it. -/
def lent (X : Blocks F) (c : Dev nD) (ch : Fin 8) (b s : ℕ) : sProp 𝕄 :=
  if s = b then slotP c ch b fullShare.left (sv X c ch b) else cred (tallyAt (sendCell c ch b) 0 N)

/-- What device `c` holds of stream `ch` after `b` of its hops are taken and `s` are started. -/
def Chan (X : Blocks F) (c : Dev nD) (ch : Fin 8) (b s : ℕ) : sProp 𝕄 :=
  iprop((bigSep (Finset.range (b + 1)) fun j => slotP c ch j fullShare.right (sv X c ch j))
    ∗ (bigSep (Finset.range b) fun j => slotP c ch j fullShare.left (sv X c ch j))
    ∗ lent X c ch b s
    ∗ (bigSep (Finset.Ico s (len ch)) fun h => todo c ch h)
    ∗ (bigSep (Finset.Ico b (len ch)) fun h => due c ch h)
    ∗ posn c ch b ∗ posn c ch (b + 1) ∗ back c ch b)

/-- The first of a run of hops. -/
theorem bigSep_Ico_first {a n : ℕ} (h : a < n) (Φ : ℕ → sProp 𝕄) :
    bigSep (Finset.Ico a n) Φ = iprop(Φ a ∗ bigSep (Finset.Ico (a + 1) n) Φ) := by
  rw [show Finset.Ico a n = insert a (Finset.Ico (a + 1) n) from by ext x; simp only [Finset.mem_insert, Finset.mem_Ico]; omega]
  exact big_insert (by simp)
/-- The last of a run of hops. -/
theorem bigSep_range_last (n : ℕ) (Φ : ℕ → sProp 𝕄) :
    bigSep (Finset.range (n + 1)) Φ = iprop(Φ n ∗ bigSep (Finset.range n) Φ) := by
  rw [Finset.range_add_one]
  exact big_insert (by simp)

/-- What comes with the reached fact of the opposite stream. -/
theorem Chan_marks (X : Blocks F) (c : Dev nD) (ch : Fin 8) (b s : ℕ) :
    Chan X c ch b s ⊢ iprop(Chan X c ch b s ∗ back c ch b ∗ reached ER (recvCell c ch (b + 1)) ((b + 1) / 2)) := by
  unfold Chan posn
  iintro ⟨H1, H2, H3, H4, H5, H6, ⟨H7, H8, #H9, #H10⟩, #H11⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7 H8]
    · isplitl [H7]; · iexact H7
      isplitl [H8]; · iexact H8
      isplitr
      · iexact H9
      · iexact H10
    · iexact H11
  isplitr
  · iexact H11
  · iexact H10

/-- Start stream `ch`'s hop `h` to device `e`. -/
def sendTo (e : Dev nD) (ch : Fin 8) (h : ℕ) : BProg (F := F) PUnit :=
  Prog.lift (.enqueueDma (slot ch h) (.remote (Dev.tc e) (slot ch (h + 1)) (.dma (semS ch h))) (.dma (semR ch h))
    (slot_wordExact ch h) (slot_wordExact ch (h + 1)) ⟨⟨rfl, Or.inl rfl⟩, trivial⟩)
theorem sendP_eq (c : Dev nD) (ch : Fin 8) (h : ℕ) : sendP (F := F) c ch h = sendTo (tgt ch c) ch h := by
  show sendTo (dest ch c) ch h = _
  rw [dest_eq]

/-- Starting hop `h` of stream `ch`: the borrowed half and the receiver's slot go, the credit for the sending half comes. -/
theorem send_step (X : Blocks F) (K : GSem nD τ sig → ℕ) (c : Dev nD) (ch : Fin 8) (h : ℕ) (hh : h < len ch)
    (O₁ O : CellTallies nD τ sig ℕ) (hO : O₁ = O + tallyAt (recvCell (tgt ch c) ch h) h N) (W : Waits sig ℕ) (Q : PUnit → sProp 𝕄) :
    iprop(records X K ∗ Chan X c ch h h ∗ back c (opp ch) h ∗ reached ER (recvCell c (opp ch) (h + 1)) ((h + 1) / 2)
        ∗ owes (c : Thread nD τ) O₁ W ∗ ((Chan X c ch h (h + 1) ∗ owes (c : Thread nD τ) O W) -∗ Q ⟨⟩))
      ⊢ WP c (sendP c ch h) Q := by
  rw [sendP_eq]
  unfold Chan sendTo
  rw [bigSep_Ico_first hh fun h => todo c ch h]
  unfold lent todo posn back slotAny
  rw [if_pos rfl, if_neg (by omega), src_opp, opp_opp]
  simp only [Prog.lift]
  iintro ⟨#HR, ⟨H1, H2, Hl, ⟨⟨HtS, HtR, ⟨%fd, Hs⟩⟩, H4⟩, H5, ⟨H6, H7, #H8, #H9⟩, H10, #H11⟩, #Hb, #Hn, HO, Hk⟩
  ihave #HIs := (inv_send X K c ch h) $$ HR
  ihave #HIr := (inv_recv X K (tgt ch c) ch h) $$ HR
  iapply (Rounds.wp_send_pointsTo_with 𝒱₀ ER (Rd X) (c : Thread nD τ) none (c' := (tgt ch c : Thread nD τ)) (src := slot ch h) (dst := slot ch (h + 1))
      (sS := .dma (semS ch h)) (sem := .dma (semR ch h)) (q := fullShare.left) (fs := (slot ch h).view.rep (sv X c ch h)) (fd := fd)
      (F := back (tgt ch c) ch (h + 1)) (κ₁ := K (sendCell c ch h)) (κ₂ := K (recvCell (tgt ch c) ch h))
      (r₁ := h / 2) (r₂ := h / 2) (d₁ := false) (d₂ := false)
      (by rw [duties_send X c ch hh]; exact Finset.mem_singleton_self _) (by rw [duties_recv X (tgt ch c) ch hh]; exact Finset.mem_singleton_self _)
      h 0 N (credit_eq ch (h + 1)) rfl rfl O hO (W := W)
      (by rw [payload_send]; exact BI.Entails.refl _)
      (by
        rw [payload_recv, View.read_rep]
        unfold recvPay slotP
        rw [sv_tgt]
        iintro ⟨Hd, HF⟩
        isplitl [Hd]
        · iapply (pointsTo_rep_of_read (tgt ch c : Thread nD τ) (slot ch (h + 1)) _ fullShare (sv X c ch h) (View.read_write_univ _ _))
          iexact Hd
        · iexact HF)) $$ [Hl Hs HO HtS HtR]
  · isplitr; · iexact HIs
    isplitr; · iexact HIr
    isplitl [Hl]; · unfold slotP; iexact Hl
    isplitl [Hs]
    · isplitl [Hs]; · iexact Hs
      unfold back; rw [src_tgt]; iexact Hn
    isplitl [HO]; · iexact HO
    isplitl [HtS]; · iexact HtS
    isplitr; · iexact H8
    isplitl [HtR]; · iexact HtR
    iexact Hb
  iintro ⟨Hc, HO⟩
  rw [wp_ret]
  imodintro
  iapply Hk
  isplitr [HO]
  · isplitl [H1]; · iexact H1
    isplitl [H2]; · iexact H2
    isplitl [Hc]; · iexact Hc
    isplitl [H4]; · iexact H4
    isplitl [H5]; · iexact H5
    isplitl [H6 H7]
    · isplitl [H6]; · iexact H6
      isplitl [H7]; · iexact H7
      isplitr
      · iexact H8
      · iexact H9
    isplitl [H10]; · iexact H10
    iexact H11
  · iexact HO

/-- Waiting for hop `h` of stream `ch`, sent and arrived: the borrowed half comes back, and the next slot filled. -/
theorem wait_step (X : Blocks F) (K : GSem nD τ sig → ℕ) (c : Dev nD) (ch : Fin 8) (h : ℕ) (hh : h < len ch) (s : Fin 8 → ℕ)
    (hs : ∀ ch', h < s ch' ∨ len ch' ≤ s ch') (W : Waits sig ℕ) (Q : PUnit → sProp 𝕄) :
    iprop(records X K ∗ Chan X c ch h (h + 1) ∗ owes (c : Thread nD τ) (owed c s) W
        ∗ ((Chan X c ch (h + 1) (h + 1) ∗ ∃ W', owes (c : Thread nD τ) (owed c s) W') -∗ Q ⟨⟩))
      ⊢ WP c (do waitSP ch h; waitRP ch h) Q := by
  have hl := len_le ch
  unfold Chan waitSP waitRP
  rw [bigSep_Ico_first hh fun h => due c ch h, bigSep_range_last (h + 1) fun j => slotP c ch j fullShare.right (sv X c ch j),
    bigSep_range_last h fun j => slotP c ch j fullShare.left (sv X c ch j)]
  unfold lent due
  rw [if_pos rfl, if_neg (by omega)]
  rw [posn_two]
  unfold posn
  simp only [Prog.lift, Prog.bind_op, Prog.bind_ret]
  iintro ⟨#HR, ⟨H1, H2, Hc, H4, ⟨Hd, H5⟩, ⟨HaS, HaR, #H8, #H9⟩, H10, #H11⟩, HO, Hk⟩
  ihave #HIs := (inv_send X K c ch h) $$ HR
  ihave #HIr := (inv_recv X K c ch h) $$ HR
  iapply (Rounds.wp_wait_rest_token 𝒱₀ ER (Rd X) (c : Thread nD τ) none (κ := K (sendCell c ch h))
      (wpE_waitDma2_eq (src := slot ch (h + 1)) (dst := slot ch h) 𝒱₀ (c : Thread nD τ) none Set.univ) (Set.mem_univ _) 0 (O := owed c s) (W := W) (R := h / 2) (m := 0) (T := ∅)
      ((Nat.zero_add _).trans ((credit_eq ch h).trans (expect_send X c ch hh).symm))) $$ [Hc HO HaS]
  · isplitr; · iexact HIs
    isplitl [Hc]
    · rw [show (slot ch h).view.dmaCredit = N from credit_eq ch h]; iexact Hc
    isplitl [HO]; · iexact HO
    isplitr
    · iapply ((@records_levs F _ X K).trans <| mayWait_of c (.dma (semS ch h)) 0 (by decide) s (fun ch' k _ _ => by rw [lv_send]; omega)); iexact HR
    iexact HaS
  iintro ⟨HO, HaS, #HrS, Hpay⟩
  ihave Hleft := (Entails.of_eq ((rest_send X c ch hh).trans (by unfold sendPay; rfl))) $$ Hpay
  iapply (Rounds.wp_wait_rest_token 𝒱₀ ER (Rd X) (c : Thread nD τ) none (κ := K (recvCell c ch h))
      (wpE_waitDma2_eq (src := slot ch h) (dst := slot ch (h + 1)) 𝒱₀ (c : Thread nD τ) none Set.univ) (Set.mem_univ _) h (O := owed c s) (W := insert (SemLoc.dma (semS ch h), 0) W) (R := h / 2) (m := 0) (T := ∅)
      ((Nat.zero_add _).trans ((credit_eq ch (h + 1)).trans (expect_recv X c ch hh).symm))) $$ [Hd HO HaR]
  · isplitr; · iexact HIr
    isplitl [Hd]
    · rw [show (slot ch (h + 1)).view.dmaCredit = N from credit_eq ch (h + 1)]; iexact Hd
    isplitl [HO]; · iexact HO
    isplitr
    · iapply ((@records_levs F _ X K).trans <| mayWait_of c (.dma (semR ch h)) h (by omega) s (fun ch' k h1 h2 => by
        rw [lv_recv]; rcases hs ch' with h3 | h3 <;> omega)); iexact HR
    iexact HaR
  iintro ⟨HO, HaR, #HrR, Hpay⟩
  ihave Hp := (Entails.of_eq (rest_recv X c ch hh)) $$ Hpay
  unfold recvPay
  icases Hp with ⟨Hslot, #Hback⟩
  ihave Hhalves := (slotP_halves c ch (h + 1) (sv X c ch (h + 1))).1 $$ Hslot
  icases Hhalves with ⟨Hl, Hr⟩
  rw [wp_ret]
  imodintro
  iapply Hk
  isplitr [HO]
  · isplitl [H1 Hr]
    · isplitl [Hr]; · iexact Hr
      iexact H1
    isplitl [H2 Hleft]
    · isplitl [Hleft]; · iexact Hleft
      iexact H2
    isplitl [Hl]; · iexact Hl
    isplitl [H4]; · iexact H4
    isplitl [H5]; · iexact H5
    isplitl [H10]; · iexact H10
    isplitl [HaS HaR]
    · isplitl [HaS]; · iexact HaS
      isplitl [HaR]; · iexact HaR
      isplitr
      · iexact HrS
      · iexact HrR
    · iexact Hback
  · iexists _; iexact HO

end Cert.Proof.Run
end
-- ==== Proof.Tiles.lean ====
/-
  The products of the body, and where they go.

  A device multiplies its own block whole, and every other device's rows 64 at a time as they come round. What ends up
  in the result is named once, index by index (`outV`); a product stored extends the part of the result that is right.
-/
module

public import proofs.«01_k».proof.Proof.Steps

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers the body reads and writes whole -/

/-- Device `c`'s packed block. -/
def xP (c : Dev nD) (x : Vec F S256x1024 .i32) : sProp 𝕄 := (xM : Memref sig .tc .vmem S256x1024 .i32).view.loc (c : Thread nD τ) ↦{fullShare} x
/-- Device `c`'s regrouped weights. -/
def wP (c : Dev nD) (w : Vec F S4096x128 .fp8e4m3) : sProp 𝕄 := (wM : Memref sig .tc .vmem S4096x128 .fp8e4m3).view.loc (c : Thread nD τ) ↦{fullShare} w
/-- Device `c`'s result. -/
def oP (c : Dev nD) (f : Vec F S4096x128 .f32) : sProp 𝕄 := (oM : Memref sig .tc .vmem S4096x128 .f32).view.loc (c : Thread nD τ) ↦{fullShare} f

/-- The quarter of the weights that starts at row `o`. -/
def wq (w : Vec F S4096x128 .fp8e4m3) (o : ℕ) (ho : ∀ a, (![o, 0] : Fin 2 → ℕ) a + S1024x128.size a ≤ S4096x128.size a) :
    Vec F S1024x128 .fp8e4m3 :=
  (wM : Memref sig .tc .vmem S4096x128 .fp8e4m3).view.readAt (Elt F) (Rect.unit (s := S4096x128) ![o, 0] S1024x128.size ho).toLoadRect w
/-- The packed block, as the body loads it. -/
def xq (x : Vec F S256x1024 .i32) : Vec F S256x1024 .i32 :=
  (xM : Memref sig .tc .vmem S256x1024 .i32).view.readAt (Elt F)
    (Rect.unit (s := S256x1024) ![0, 0] S256x1024.size inb_S256x1024_S256x1024_0_0).toLoadRect x

theorem wp_loadW (c : Dev nD) (w : Vec F S4096x128 .fp8e4m3) (o : ℕ) (ho) {α : Type} (k : Vec F S1024x128 .fp8e4m3 → BProg (F := F) α)
    (Q : α → sProp 𝕄) (G : sProp 𝕄) (hk : iprop(wP c w ∗ G) ⊢ WP c (k (wq w o ho)) Q) :
    iprop(wP c w ∗ G) ⊢ WP c (loadW o ho >>= k) Q := by
  simp only [Prog.lift, Prog.bind_op, Prog.bind_ret, Prog.pure_eq_ret]
  iintro ⟨H, HG⟩
  iapply (wp_load 𝒱₀ (c : Thread nD τ) none Set.univ (m := wM) (S := Finset.univ) (Finset.subset_univ _)) $$ [H]
  · unfold wP; iexact H
  iintro H
  iapply hk
  isplitl [H]
  · unfold wP; iexact H
  · iexact HG

/-! ## The result -/

/-- The product of 64 packed rows with the weights, scaled. -/
def tileV (sc : F .f32) (v : Vec F S64x1024 .i32) (w : Vec F S4096x128 .fp8e4m3) : Vec F S64x128 .f32 :=
  mulf (addf (addf (addf (mm64 v 0#32 (wq w 0 inb_S4096x128_S1024x128_0_0)) (mm64 v 8#32 (wq w 1024 inb_S4096x128_S1024x128_1024_0)))
    (mm64 v 16#32 (wq w 2048 inb_S4096x128_S1024x128_2048_0))) (mm64 v 24#32 (wq w 3072 inb_S4096x128_S1024x128_3072_0))) (broadcast S64x128 sc)
/-- The product of the device's own 256 packed rows with the weights, scaled. -/
def ownV (sc : F .f32) (x : Vec F S256x1024 .i32) (w : Vec F S4096x128 .fp8e4m3) : Vec F S256x128 .f32 :=
  tile256 sc (xq x) (wq w 0 inb_S4096x128_S1024x128_0_0) (wq w 1024 inb_S4096x128_S1024x128_1024_0)
    (wq w 2048 inb_S4096x128_S1024x128_2048_0) (wq w 3072 inb_S4096x128_S1024x128_3072_0)

/-- The index in a block of `m` rows of the result's index `i`. -/
def rowIn (m : ℕ) (hm : 0 < m) (i : S4096x128.Idx) : (⟨2, ![m, 128]⟩ : Shape).Idx
  | 0 => ⟨(i 0).val % m, Nat.mod_lt _ hm⟩
  | 1 => i 1

/-- The device whose rows give the result's index `i`. -/
def owner (i : S4096x128.Idx) : Dev nD := ⟨(i 0).val / 256, by have h : (i 0).val < 4096 := (i 0).isLt; show _ < 16; omega⟩

/-- Device `c`'s result. -/
def outV (X : Blocks F) (w : Vec F S4096x128 .fp8e4m3) (sc : F .f32) (c : Dev nD) : Vec F S4096x128 .f32 := fun i =>
  if owner i = c then ownV sc (X c) w (rowIn 256 (by decide) i)
  else tileV sc (gv X (owner i) ((i 0).val / 64)) w (rowIn 64 (by decide) i)

/-- Whether action `a` of device `c` stores the 64 rows of the result that are numbered `b`. -/
def cov (c : Dev nD) (b : ℕ) : Act → Prop
  | .own => b / 4 = c.val
  | .tile ch j => b = 4 * (org ch j c).val + ch.val % 4
  | _ => False

/-- The result `f` is right wherever one of the actions `l` has stored. -/
def Right (X : Blocks F) (w : Vec F S4096x128 .fp8e4m3) (sc : F .f32) (c : Dev nD) (l : List Act) (f : Vec F S4096x128 .f32) : Prop :=
  ∀ i, (∃ a ∈ l, cov c ((i 0).val / 64) a) → f i = outV X w sc c i

/-- A block of right values stored where it belongs leaves the result right there too. -/
theorem right_store (X : Blocks F) (w : Vec F S4096x128 .fp8e4m3) (sc : F .f32) (c : Dev nD) (l : List Act) (a : Act) (f : Vec F S4096x128 .f32)
    (r : Rect S4096x128) (v : r.shape.Idx → Elt F .f32) (hv : ∀ y, v y = outV X w sc c (r.emb y))
    (ha : ∀ i, cov c ((i 0).val / 64) a → ∃ y, r.emb y = i) (hf : Right X w sc c l f) :
    Right X w sc c (a :: l) (((oM : Memref sig .tc .vmem S4096x128 .f32).access r).write (Elt F) f v Finset.univ) := by
  intro i hi
  by_cases hy : ∃ y, r.emb y = i
  · obtain ⟨y, rfl⟩ := hy
    exact (View.write_emb_of_mem (v := (oM : Memref sig .tc .vmem S4096x128 .f32).access r) f v (Finset.mem_univ y)).trans (hv y)
  · refine (View.write_of_not_mem (v := (oM : Memref sig .tc .vmem S4096x128 .f32).access r) f v Finset.univ ?_).trans (hf i ?_)
    · rintro hm
      obtain ⟨y, -, e⟩ := Finset.mem_map.mp hm
      exact hy ⟨y, e⟩
    · obtain ⟨a', hm, hc⟩ := hi
      rcases List.mem_cons.mp hm with rfl | hm
      · exact absurd (ha i hc) hy
      · exact ⟨a', hm, hc⟩

theorem gv_mod (X : Blocks F) (d : Dev nD) {g g' : ℕ} (h : g % 4 = g' % 4) : gv X d g = gv X d g' := by
  have e : ∀ a b (ha hb), a = b → (Rect.unit (s := S256x1024) ![64 * a, 0] S64x1024.size ha).emb
      = (Rect.unit (s := S256x1024) ![64 * b, 0] S64x1024.size hb).emb := by
    rintro a b ha hb rfl; rfl
  unfold gv; funext y
  rw [e _ _ (inbG g) (inbG g') h]

/-- The tile of stream `ch`'s slot `j` goes to its origin's rows. -/
theorem tileOff_eq (ch : Fin 8) (j : Fin 9) (hj : 1 ≤ j.val) (c : Dev nD) :
    tileOff ch j.val c = ![256 * (org ch j.val c).val + 64 * (ch.val % 4), 0] := by
  revert ch j c; decide +kernel
/-- A slot past the first holds another device's rows. -/
theorem org_ne (ch : Fin 8) (j : Fin 9) (hj : 1 ≤ j.val) (c : Dev nD) : org ch j.val c ≠ c := by
  revert ch j c; decide +kernel

/-- The tile of a slot is what belongs there. -/
theorem tile_right (X : Blocks F) (w : Vec F S4096x128 .fp8e4m3) (sc : F .f32) (c : Dev nD) (ch : Fin 8) (j : ℕ) (h1 : 1 ≤ j) (h2 : j ≤ len ch)
    (hoff) (y : S64x128.Idx) :
    tileV sc (sv X c ch j) w y = outV X w sc c ((Rect.unit (s := S4096x128) (tileOff ch j c) S64x128.size hoff).emb y) := by
  have hl := len_le ch
  have e := tileOff_eq ch ⟨j, by omega⟩ h1 c
  have hne := org_ne ch ⟨j, by omega⟩ h1 c
  dsimp only at e hne
  have hy : (y 0).val < 64 := (y 0).isLt
  have hc := ch.isLt
  have e0 : (((Rect.unit (s := S4096x128) (tileOff ch j c) S64x128.size hoff).emb y) 0).val = 256 * (org ch j c).val + 64 * (ch.val % 4) + (y 0).val := by
    show tileOff ch j c 0 + 1 * (y 0).val = _
    rw [e, Nat.one_mul]; rfl
  have e1 : (((Rect.unit (s := S4096x128) (tileOff ch j c) S64x128.size hoff).emb y) 1).val = (y 1).val := by
    show tileOff ch j c 1 + 1 * (y 1).val = _
    rw [e, Nat.one_mul]; exact Nat.zero_add _
  generalize (Rect.unit (s := S4096x128) (tileOff ch j c) S64x128.size hoff).emb y = i at e0 e1
  have ho : owner i = org ch j c := Fin.ext (by show (i 0).val / 256 = _; omega)
  unfold outV
  rw [ho, if_neg hne, sv, gv_mod X _ (g := (i 0).val / 64) (g' := ch.val) (by omega)]
  refine congrArg _ (funext fun a => ?_)
  fin_cases a
  · exact Fin.ext (by show (y 0).val = (i 0).val % 64; omega)
  · exact Fin.ext e1.symm

theorem tile_covers (c : Dev nD) (ch : Fin 8) (j : ℕ) (h1 : 1 ≤ j) (h2 : j ≤ len ch) (hoff) (i : S4096x128.Idx)
    (h : cov c ((i 0).val / 64) (.tile ch j)) : ∃ y, (Rect.unit (s := S4096x128) (tileOff ch j c) S64x128.size hoff).emb y = i := by
  have hl := len_le ch
  have e := tileOff_eq ch ⟨j, by omega⟩ h1 c
  dsimp only at e
  have hi : (i 0).val / 64 = 4 * (org ch j c).val + ch.val % 4 := h
  refine ⟨rowIn 64 (by decide) i, funext fun a => Fin.ext ?_⟩
  fin_cases a
  · show tileOff ch j c 0 + 1 * ((i 0).val % 64) = (i 0).val
    rw [e, Nat.one_mul]
    show 256 * (org ch j c).val + 64 * (ch.val % 4) + (i 0).val % 64 = _
    omega
  · show tileOff ch j c 1 + 1 * (i 1).val = (i 1).val
    rw [e, Nat.one_mul]; exact Nat.zero_add _

theorem own_right (X : Blocks F) (w : Vec F S4096x128 .fp8e4m3) (sc : F .f32) (c : Dev nD) (hoff) (y : S256x128.Idx) :
    ownV sc (X c) w y = outV X w sc c ((Rect.unit (s := S4096x128) (k0_off1 c) S256x128.size hoff).emb y) := by
  have hy : (y 0).val < 256 := (y 0).isLt
  have e : k0_off1 c = ![256 * c.val, 0] := Cert.KernelIdeal.Gen.k0_off1_eq c
  have e0 : (((Rect.unit (s := S4096x128) (k0_off1 c) S256x128.size hoff).emb y) 0).val = 256 * c.val + (y 0).val := by
    show k0_off1 c 0 + 1 * (y 0).val = _
    rw [e, Nat.one_mul]; rfl
  have e1 : (((Rect.unit (s := S4096x128) (k0_off1 c) S256x128.size hoff).emb y) 1).val = (y 1).val := by
    show k0_off1 c 1 + 1 * (y 1).val = _
    rw [e, Nat.one_mul]; exact Nat.zero_add _
  generalize (Rect.unit (s := S4096x128) (k0_off1 c) S256x128.size hoff).emb y = i at e0 e1
  have ho : owner i = c := Fin.ext (by show (i 0).val / 256 = _; omega)
  unfold outV
  rw [if_pos ho]
  refine congrArg _ (funext fun a => ?_)
  fin_cases a
  · exact Fin.ext (by show (y 0).val = (i 0).val % 256; omega)
  · exact Fin.ext e1.symm

theorem own_covers (c : Dev nD) (hoff) (i : S4096x128.Idx) (h : cov c ((i 0).val / 64) .own) :
    ∃ y, (Rect.unit (s := S4096x128) (k0_off1 c) S256x128.size hoff).emb y = i := by
  have e : k0_off1 c = ![256 * c.val, 0] := Cert.KernelIdeal.Gen.k0_off1_eq c
  have hi : (i 0).val / 64 / 4 = c.val := h
  refine ⟨rowIn 256 (by decide) i, funext fun a => Fin.ext ?_⟩
  fin_cases a
  · show k0_off1 c 0 + 1 * ((i 0).val % 256) = (i 0).val
    rw [e, Nat.one_mul]
    show 256 * c.val + (i 0).val % 256 = _
    omega
  · show k0_off1 c 1 + 1 * (i 1).val = (i 1).val
    rw [e, Nat.one_mul]; exact Nat.zero_add _

/-! ## The steps -/

/-- Multiplying a slot's rows and storing the product. -/
theorem tile_step (X : Blocks F) (w : Vec F S4096x128 .fp8e4m3) (sc : F .f32) (c : Dev nD) (ch : Fin 8) (j : ℕ) (h1 : 1 ≤ j) (h2 : j ≤ len ch)
    (q : PosShare TreeShare) (l : List Act) (f : Vec F S4096x128 .f32) (hf : Right X w sc c l f) (Q : PUnit → sProp 𝕄) :
    iprop(slotP c ch j q (sv X c ch j) ∗ wP c w ∗ oP c f
        ∗ (∀ f', ⌜Right X w sc c (.tile ch j :: l) f'⌝ -∗ (slotP c ch j q (sv X c ch j) ∗ wP c w ∗ oP c f') -∗ Q ⟨⟩))
      ⊢ WP c (Act.prog c sc (.tile ch j)) Q := by
  unfold Act.prog tileP
  refine wp_loadSlot c ch j q _ _ Q _ fun v hv => ?_
  refine (show _ ⊢ iprop(wP c w ∗ (slotP c ch j q (sv X c ch j) ∗ oP c f
    ∗ (∀ f', ⌜Right X w sc c (.tile ch j :: l) f'⌝ -∗ (slotP c ch j q (sv X c ch j) ∗ wP c w ∗ oP c f') -∗ Q ⟨⟩))) from ?_).trans
    (wp_loadW c w 0 _ _ Q _ (wp_loadW c w 1024 _ _ Q _ (wp_loadW c w 2048 _ _ Q _ (wp_loadW c w 3072 _ _ Q _ ?_))))
  · iintro ⟨Hs, Hw, Hk⟩
    isplitl [Hw]; · iexact Hw
    isplitl [Hs]; · iexact Hs
    iexact Hk
  simp only [Prog.lift, Prog.bind_op, Prog.bind_ret, Prog.pure_eq_ret]
  unfold oP
  iintro ⟨Hw, Hs, Ho, Hk⟩
  iapply (wp_load 𝒱₀ (c : Thread nD τ) none Set.univ (m := oM) (S := Finset.univ) (Finset.subset_univ _)) $$ [Ho]
  · iexact Ho
  iintro Ho
  iapply (wp_store 𝒱₀ (c : Thread nD τ) none Set.univ (m := oM) (S := Finset.univ) (Finset.subset_univ _)) $$ [Ho]
  · iexact Ho
  iintro Ho
  rw [wp_ret]
  imodintro
  iapply Hk $$ [] [Hs Hw Ho]
  rotate_left
  · isplitl [Hs]; · iexact Hs
    isplitl [Hw]; · iexact Hw
    iexact Ho
  ipureintro
  refine right_store X w sc c l (.tile ch j) f _ _ (fun y => ?_) (fun i => tile_covers c ch j h1 h2 _ i) hf
  refine Eq.trans ?_ (tile_right X w sc c ch j h1 h2 _ y)
  show tileV sc (shapeCast S64x1024 v shapeCasts_S1x64x1024_S64x1024) w y = _
  rw [hv]

/-- Multiplying the device's own block and storing the product. -/
theorem own_step (X : Blocks F) (w : Vec F S4096x128 .fp8e4m3) (sc : F .f32) (c : Dev nD)
    (l : List Act) (f : Vec F S4096x128 .f32) (hf : Right X w sc c l f) (Q : PUnit → sProp 𝕄) :
    iprop(xP c (X c) ∗ wP c w ∗ oP c f
        ∗ (∀ f', ⌜Right X w sc c (.own :: l) f'⌝ -∗ (xP c (X c) ∗ wP c w ∗ oP c f') -∗ Q ⟨⟩))
      ⊢ WP c (Act.prog c sc .own) Q := by
  show _ ⊢ WP c (ownP sc c) Q
  unfold ownP xP
  rw [Prog.lift]
  simp only [Prog.bind_op, Prog.bind_ret]
  iintro ⟨Hx, H⟩
  iapply (wp_load 𝒱₀ (c : Thread nD τ) none Set.univ (m := xM) (S := Finset.univ) (Finset.subset_univ _)) $$ [Hx]
  · iexact Hx
  iintro Hx
  istop
  refine (show _ ⊢ iprop(wP c w ∗ (oP c f ∗ xP c (X c)
    ∗ (∀ f', ⌜Right X w sc c (.own :: l) f'⌝ -∗ (xP c (X c) ∗ wP c w ∗ oP c f') -∗ Q ⟨⟩))) from ?_).trans
    (wp_loadW c w 0 _ _ Q _ (wp_loadW c w 1024 _ _ Q _ (wp_loadW c w 2048 _ _ Q _ (wp_loadW c w 3072 _ _ Q _ ?_))))
  · unfold xP
    iintro ⟨⟨Hw, Ho, Hk⟩, Hx⟩
    isplitl [Hw]; · iexact Hw
    isplitl [Ho]; · iexact Ho
    isplitl [Hx]; · iexact Hx
    iexact Hk
  simp only [Prog.lift, Prog.bind_op, Prog.bind_ret, Prog.pure_eq_ret]
  unfold oP
  iintro ⟨Hw, Ho, Hx, Hk⟩
  iapply (wp_load 𝒱₀ (c : Thread nD τ) none Set.univ (m := oM) (S := Finset.univ) (Finset.subset_univ _)) $$ [Ho]
  · iexact Ho
  iintro Ho
  iapply (wp_store 𝒱₀ (c : Thread nD τ) none Set.univ (m := oM) (S := Finset.univ) (Finset.subset_univ _)) $$ [Ho]
  · iexact Ho
  iintro Ho
  rw [wp_ret]
  imodintro
  iapply Hk $$ [] [Hx Hw Ho]
  rotate_left
  · isplitl [Hx]; · iexact Hx
    isplitl [Hw]; · iexact Hw
    iexact Ho
  ipureintro
  exact right_store X w sc c l .own f _ _ (own_right X w sc c _) (own_covers c _) hf

end Cert.Proof.Run
end
-- ==== Proof.Actions.lean ====
/-
  The run of the body's actions.

  How far each stream has come, and which products are stored, is followed action by action; that each action finds the
  streams where it needs them is decided of the list. What is known of the device's state is one assertion of how far.
-/
module

public import proofs.«01_k».proof.Proof.Tiles

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- How far the streams have come: hops taken, hops started, actions done. -/
structure Far where
  b : Fin 8 → ℕ
  s : Fin 8 → ℕ
  l : List Act

/-- An action moves its stream on. -/
def Far.next (p : Far) (a : Act) : Far := match a with
  | .wait ch h => ⟨Function.update p.b ch (h + 1), p.s, a :: p.l⟩
  | .send ch h => ⟨p.b, Function.update p.s ch (h + 1), a :: p.l⟩
  | _ => ⟨p.b, p.s, a :: p.l⟩

/-- Whether an action finds the streams where it needs them. -/
def Far.Ok (p : Far) : Act → Prop
  | .wait ch h => h < len ch ∧ p.b ch = h ∧ p.s ch = h + 1 ∧ ∀ ch', h < p.s ch' ∨ len ch' ≤ p.s ch'
  | .send ch h => h < len ch ∧ p.b ch = h ∧ p.s ch = h ∧ p.b (opp ch) = h
  | .own => True
  | .tile ch j => 1 ≤ j ∧ j ≤ len ch ∧ j ≤ p.b ch

instance (p : Far) (a : Act) : Decidable (p.Ok a) := by
  cases a <;> unfold Far.Ok <;> infer_instance

/-- Whether every action of a list does. -/
def Far.OkAll (p : Far) : List Act → Prop
  | [] => True
  | a :: l => p.Ok a ∧ (p.next a).OkAll l

instance Far.decOkAll (l : List Act) (p : Far) : Decidable (p.OkAll l) := by
  induction l generalizing p with
  | nil => exact isTrue trivial
  | cons a l ih => exact @instDecidableAnd _ _ _ (ih _)

/-- Nothing done. -/
def far0 : Far := ⟨fun _ => 0, fun _ => 0, []⟩

theorem acts_ok : far0.OkAll acts := by decide +kernel
theorem acts_done : ∀ ch, (acts.foldl Far.next far0).b ch = len ch ∧ (acts.foldl Far.next far0).s ch = len ch := by
  decide +kernel
theorem far_list (l : List Act) (p : Far) (a : Act) (h : a ∈ l ∨ a ∈ p.l) : a ∈ (l.foldl Far.next p).l := by
  induction l generalizing p with
  | nil => exact h.resolve_left (List.not_mem_nil)
  | cons b l ih =>
    refine ih _ ?_
    have e : (p.next b).l = b :: p.l := by cases b <;> rfl
    rw [e]
    rcases h with h | h
    · rcases List.mem_cons.mp h with rfl | h
      · exact .inr (List.mem_cons_self)
      · exact .inl h
    · exact .inr (List.mem_cons_of_mem _ h)

theorem tile_mem : ∀ (ch : Fin 8) (j : Fin 9), 1 ≤ j.val → j.val ≤ len ch → Act.tile ch j.val ∈ acts := by decide +kernel
theorem own_mem : Act.own ∈ acts := by decide +kernel
/-- Every other device's rows come by on one of the streams. -/
theorem tile_for : ∀ (c d : Dev nD) (g : Fin 4), d ≠ c →
    ∃ (ch : Fin 8) (j : Fin 9), 1 ≤ j.val ∧ j.val ≤ len ch ∧ org ch j.val c = d ∧ ch.val % 4 = g.val := by decide +kernel

/-- Every row of the result is stored. -/
theorem all_covered (c : Dev nD) (i : S4096x128.Idx) : ∃ a ∈ (acts.foldl Far.next far0).l, cov c ((i 0).val / 64) a := by
  have hi : (i 0).val < 4096 := (i 0).isLt
  by_cases h : owner i = c
  · refine ⟨.own, far_list _ _ _ (.inl own_mem), ?_⟩
    show (i 0).val / 64 / 4 = c.val
    rw [← h]; show _ = (i 0).val / 256; omega
  · obtain ⟨ch, j, h1, h2, h3, h4⟩ := tile_for c (owner i) ⟨(i 0).val / 64 % 4, by omega⟩ h
    refine ⟨.tile ch j.val, far_list _ _ _ (.inl (tile_mem ch j h1 h2)), ?_⟩
    show (i 0).val / 64 = 4 * (org ch j.val c).val + ch.val % 4
    rw [h3, h4]; show _ = 4 * ((i 0).val / 256) + (i 0).val / 64 % 4; omega

section Run
variable (X : Blocks F) (K : GSem nD τ sig → ℕ) (c : Dev nD) (sc : F .f32) (w : Vec F S4096x128 .fp8e4m3)

/-- The streams but one, where another's place has moved. -/
theorem chans_at (b s b' s' : Fin 8 → ℕ) (ch : Fin 8) (h : ∀ ch', ch' ≠ ch → b' ch' = b ch' ∧ s' ch' = s ch') :
    (bigSep Finset.univ fun ch => Chan X c ch (b' ch) (s' ch))
      = (iprop(Chan X c ch (b' ch) (s' ch) ∗ bigSep (Finset.univ.erase ch) fun ch => Chan X c ch (b ch) (s ch)) : sProp 𝕄) := by
  rw [big_erase (Finset.mem_univ ch)]
  congr 1
  refine bigSep_congr fun ch' hc => ?_
  obtain ⟨e1, e2⟩ := h ch' (Finset.ne_of_mem_erase hc)
  rw [e1, e2]

/-- Device `c`'s state once it has come as far as `p`. -/
def At (p : Far) : sProp 𝕄 :=
  iprop((bigSep Finset.univ fun ch => Chan X c ch (p.b ch) (p.s ch)) ∗ (∃ W, owes (c : Thread nD τ) (owed c p.s) W)
    ∗ xP c (X c) ∗ wP c w ∗ ∃ f, ⌜Right X w sc c p.l f⌝ ∗ oP c f)

/-- An action that stores nothing leaves the result as right as it was. -/
theorem right_other {l : List Act} {a : Act} {f : Vec F S4096x128 .f32} (ha : ∀ b, ¬cov c b a) (h : Right X w sc c l f) :
    Right X w sc c (a :: l) f := fun i ⟨a', hm, hc⟩ => by
  rcases List.mem_cons.mp hm with rfl | hm
  · exact absurd hc (ha _)
  · exact h i ⟨a', hm, hc⟩

/-- An action that finds the streams where it needs them takes the device one step on. -/
theorem act_step (p : Far) (a : Act) (ha : p.Ok a) (Q : PUnit → sProp 𝕄) :
    iprop(records X K ∗ At X c sc w p ∗ (At X c sc w (p.next a) -∗ Q ⟨⟩)) ⊢ WP c (a.prog c sc) Q := by
  obtain ⟨b, s, l⟩ := p
  cases a with
  | wait ch h =>
    obtain ⟨h1, h2, h3, h4⟩ := ha
    dsimp only at h2 h3 h4
    unfold At
    dsimp only [Far.next]
    rw [chans_at X c b s b s ch (fun _ _ => ⟨rfl, rfl⟩),
      chans_at X c b s (Function.update b ch (h + 1)) s ch (fun ch' hc => ⟨Function.update_of_ne hc _ _, rfl⟩), h2, h3, Function.update_self]
    show _ ⊢ WP c (do waitSP ch h; waitRP ch h) Q
    iintro ⟨#HR, ⟨⟨Hc, Hcs⟩, ⟨%W, HO⟩, Hx, Hw, ⟨%f, %hf, Ho⟩⟩, Hk⟩
    iapply (wait_step X K c ch h h1 s h4 W Q)
    isplitr; · iexact HR
    isplitl [Hc]; · iexact Hc
    isplitl [HO]; · iexact HO
    iintro ⟨Hc, HO⟩
    iapply Hk
    isplitl [Hc Hcs]
    · isplitl [Hc]; · iexact Hc
      iexact Hcs
    isplitl [HO]; · iexact HO
    isplitl [Hx]; · iexact Hx
    isplitl [Hw]; · iexact Hw
    iexists f
    isplitr
    · ipureintro; exact right_other X c sc w (fun _ h => h) hf
    · iexact Ho
  | send ch h =>
    obtain ⟨h1, h2, h3, h4⟩ := ha
    dsimp only at h2 h3 h4
    have hs : s ch < len ch := by omega
    unfold At
    dsimp only [Far.next]
    rw [chans_at X c b s b s ch (fun _ _ => ⟨rfl, rfl⟩),
      chans_at X c b s b (Function.update s ch (h + 1)) ch (fun ch' hc => ⟨rfl, Function.update_of_ne hc _ _⟩), h2, h3, Function.update_self,
      big_erase (Finset.mem_erase.mpr ⟨opp_ne ch, Finset.mem_univ _⟩), h4]
    show _ ⊢ WP c (sendP c ch h) Q
    iintro ⟨#HR, ⟨⟨Hc, Hopp, Hcs⟩, ⟨%W, HO⟩, Hx, Hw, ⟨%f, %hf, Ho⟩⟩, Hk⟩
    ihave Hm := (Chan_marks X c (opp ch) h (s (opp ch))) $$ Hopp
    icases Hm with ⟨Hopp, #Hb, #Hn⟩
    iapply (send_step X K c ch h h1 (owed c s) (owed c (Function.update s ch (h + 1))) (by rw [← h3]; exact owed_send c s ch hs) W Q)
    isplitr; · iexact HR
    isplitl [Hc]; · iexact Hc
    isplitr; · iexact Hb
    isplitr; · iexact Hn
    isplitl [HO]; · iexact HO
    iintro ⟨Hc, HO⟩
    iapply Hk
    isplitl [Hc Hopp Hcs]
    · isplitl [Hc]; · iexact Hc
      isplitl [Hopp]; · iexact Hopp
      iexact Hcs
    isplitl [HO]; · iexists W; iexact HO
    isplitl [Hx]; · iexact Hx
    isplitl [Hw]; · iexact Hw
    iexists f
    isplitr
    · ipureintro; exact right_other X c sc w (fun _ h => h) hf
    · iexact Ho
  | own =>
    unfold At
    dsimp only [Far.next]
    iintro ⟨-, ⟨Hcs, HO, Hx, Hw, ⟨%f, %hf, Ho⟩⟩, Hk⟩
    iapply (own_step X w sc c l f hf Q)
    isplitl [Hx]; · iexact Hx
    isplitl [Hw]; · iexact Hw
    isplitl [Ho]; · iexact Ho
    iintro %f' %hf' ⟨Hx, Hw, Ho⟩
    iapply Hk
    isplitl [Hcs]; · iexact Hcs
    isplitl [HO]; · iexact HO
    isplitl [Hx]; · iexact Hx
    isplitl [Hw]; · iexact Hw
    iexists f'
    isplitr
    · ipureintro; exact hf'
    · iexact Ho
  | tile ch j =>
    obtain ⟨h1, h2, h3⟩ := ha
    dsimp only at h3
    unfold At
    dsimp only [Far.next]
    rw [chans_at X c b s b s ch (fun _ _ => ⟨rfl, rfl⟩)]
    unfold Chan
    rw [big_erase (S := Finset.range (b ch + 1)) (i := j) (Finset.mem_range.mpr (by omega))]
    iintro ⟨-, ⟨⟨⟨⟨Hs, Hss⟩, Hc⟩, Hcs⟩, HO, Hx, Hw, ⟨%f, %hf, Ho⟩⟩, Hk⟩
    iapply (tile_step X w sc c ch j h1 h2 fullShare.right l f hf Q)
    isplitl [Hs]; · iexact Hs
    isplitl [Hw]; · iexact Hw
    isplitl [Ho]; · iexact Ho
    iintro %f' %hf' ⟨Hs, Hw, Ho⟩
    iapply Hk
    isplitl [Hs Hss Hc Hcs]
    · isplitl [Hs Hss Hc]
      · isplitl [Hs Hss]
        · isplitl [Hs]; · iexact Hs
          iexact Hss
        · iexact Hc
      · iexact Hcs
    isplitl [HO]; · iexact HO
    isplitl [Hx]; · iexact Hx
    isplitl [Hw]; · iexact Hw
    iexists f'
    isplitr
    · ipureintro; exact hf'
    · iexact Ho

/-- The run of a list of actions. -/
theorem acts_run (l : List Act) (p : Far) (h : p.OkAll l) (Q : PUnit → sProp 𝕄) :
    iprop(records X K ∗ At X c sc w p ∗ (At X c sc w (l.foldl Far.next p) -∗ Q ⟨⟩)) ⊢ WP c (runActs c sc l) Q := by
  induction l generalizing p with
  | nil =>
    show _ ⊢ WP c (Prog.ret ⟨⟩) Q
    unfold WP; rw [wp_ret]
    iintro ⟨-, H, Hk⟩
    imodintro
    iapply Hk; iexact H
  | cons a l ih =>
    show _ ⊢ WP c (a.prog c sc >>= fun _ => runActs c sc l) Q
    unfold WP; rw [wp_bind]
    iintro ⟨#HR, H, Hk⟩
    iapply (act_step X K c sc w p a h.1 _)
    isplitr; · iexact HR
    isplitl [H]; · iexact H
    iintro H
    iapply (ih (p.next a) h.2)
    isplitr; · iexact HR
    isplitl [H]; · iexact H
    iexact Hk

end Run

end Cert.Proof.Run
end
-- ==== Proof.Ends.lean ====
/-
  The two ends of the body: what the streams start from, and what they give back.
-/
module

public import proofs.«01_k».proof.Proof.Actions

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots, by direction -/

/-- The first of a run of slots. -/
theorem bigSep_range_first (n : ℕ) (Φ : ℕ → sProp 𝕄) :
    bigSep (Finset.range (n + 1)) Φ = iprop(Φ 0 ∗ bigSep (Finset.range n) fun h => Φ (h + 1)) := by
  rw [Finset.range_add_one', big_insert (by simp), BI.bigSep_map]
  rfl

/-- The streams are those of the two directions. -/
theorem big_dirs (Φ : Fin 8 → sProp 𝕄) : bigSep Finset.univ Φ = iprop(bigSep (dirs true) Φ ∗ bigSep (dirs false) Φ) := by
  rw [show (Finset.univ : Finset (Fin 8)) = dirs true ∪ dirs false from by decide]
  exact bigSep_union (by decide)

/-- The slots of device `c` that stream `ch` fills. -/
def rows (c : Dev nD) (ch : Fin 8) : sProp 𝕄 := bigSep (Finset.range (len ch)) fun h => slotAny c ch (h + 1)
/-- That device `c`'s receive cells of stream `ch` are open. -/
def fresh (c : Dev nD) (ch : Fin 8) : sProp 𝕄 := reached ER (recvCell c ch 0) 0
instance fresh_persistent (c : Dev nD) (ch : Fin 8) : BI.Persistent (fresh (F := F) c ch) := by unfold fresh; infer_instance

/-- What device `c` hands the neighbour `e` that fills its slots. -/
theorem barPay_of (c e : Dev nD) (d : Bool) (h : ∀ ch ∈ dirs d, tgt ch e = c) :
    (barPay e d : sProp 𝕄) = iprop(bigSep (dirs d) (rows c) ∗ bigSep (dirs d) (fresh c)) := by
  rw [← bigSep_sep']
  unfold barPay
  refine bigSep_congr fun ch hc => ?_
  rw [h ch hc]; rfl
/-- What the neighbours hand device `c`. -/
theorem barPay_both (c : Dev nD) :
    (iprop(barPay c true ∗ barPay c false) : sProp 𝕄) = iprop((bigSep Finset.univ fun ch => rows (tgt ch c) ch) ∗ bigSep Finset.univ fun ch => fresh (tgt ch c) ch) := by
  rw [← bigSep_sep', big_dirs]
  rfl
theorem tgt_prv (c : Dev nD) : ∀ ch ∈ dirs true, tgt ch (prv c) = c := by revert c; decide
theorem tgt_nxt (c : Dev nD) : ∀ ch ∈ dirs false, tgt ch (nxt c) = c := by revert c; decide

/-- The landing buffers are their first slots, and the slots either neighbour fills. -/
theorem bufs_out (c : Dev nD) : (bigSep Finset.univ fun ch => (bufAny c ch : sProp 𝕄))
    ⊢ iprop((bigSep Finset.univ fun ch => slotAny c ch 0) ∗ bigSep (dirs true) (rows c) ∗ bigSep (dirs false) (rows c)) := by
  rw [← big_dirs (rows c), ← bigSep_sep']
  refine big_mono fun ch _ => (buf_split c ch).trans ?_
  rw [bigSep_range_first]
  exact BI.Entails.refl _

/-! ## A stream's start -/

/-- The duties of stream `ch`'s hops. -/
def toks (c : Dev nD) (ch : Fin 8) : sProp 𝕄 := bigSep (Finset.range (len ch)) fun h =>
  iprop(dutyTok ER (sendCell c ch h) (h / 2) false ∗ dutyTok ER (recvCell (tgt ch c) ch h) (h / 2) false)
/-- The credits of stream `ch`'s arrivals. -/
def dues (c : Dev nD) (ch : Fin 8) : sProp 𝕄 := bigSep (Finset.range (len ch)) fun h => due c ch h

/-- What a stream starts from. -/
theorem chan_start (X : Blocks F) (c : Dev nD) (ch : Fin 8) :
    iprop(slotP c ch 0 fullShare (sv X c ch 0) ∗ toks c ch ∗ rows (tgt ch c) ch ∗ dues c ch ∗ (posn c ch 0 ∗ posn c ch 1) ∗ fresh (tgt (opp ch) c) (opp ch))
      ⊢ Chan X c ch 0 0 := by
  unfold Chan lent todo dues toks rows
  rw [if_pos rfl, ← Finset.range_eq_Ico, bigSep_range_last, Finset.range_zero, bigSep_empty, bigSep_empty, bigSep_sep', bigSep_sep', bigSep_sep']
  iintro ⟨Hs, ⟨Ht1, Ht2⟩, Hr, Hd, ⟨Hp, Hp'⟩, #Hf⟩
  ihave Hh := (slotP_halves c ch 0 (sv X c ch 0)).1 $$ Hs
  icases Hh with ⟨Hl, Hr'⟩
  isplitl [Hr']
  · isplitl [Hr']; · iexact Hr'
    iempintro
  isplitr; · iempintro
  isplitl [Hl]; · iexact Hl
  isplitl [Ht1 Ht2 Hr]
  · isplitl [Ht1]; · iexact Ht1
    isplitl [Ht2]; · iexact Ht2
    iexact Hr
  isplitl [Hd]; · iexact Hd
  isplitl [Hp]; · iexact Hp
  isplitl [Hp']; · iexact Hp'
  unfold back fresh
  rw [← src_opp, opp_opp]
  iexact Hf

/-- What a device's streams start from. -/
theorem chans_start (X : Blocks F) (c : Dev nD) :
    iprop((bigSep Finset.univ fun ch => slotP c ch 0 fullShare (sv X c ch 0)) ∗ (bigSep Finset.univ fun ch => toks c ch)
        ∗ (bigSep Finset.univ fun ch => rows (tgt ch c) ch) ∗ (bigSep Finset.univ fun ch => dues c ch)
        ∗ (bigSep Finset.univ fun ch => iprop(posn c ch 0 ∗ posn c ch 1)) ∗ (bigSep Finset.univ fun ch => fresh (tgt ch c) ch))
      ⊢ bigSep Finset.univ fun ch => Chan X c ch 0 0 := by
  rw [bigSep_univ_equiv flip fun ch => fresh (tgt ch c) ch]
  simp only [← bigSep_sep']
  exact big_mono fun ch _ => chan_start X c ch

/-- The places a device's cells start at. -/
def opened (c : Dev nD) : sProp 𝕄 := bigSep Finset.univ fun k : Fin 8 × Fin 4 =>
  iprop(atPos ER ((c : Thread nD τ), osem k) 0 ∅ 0 ∗ reached ER ((c : Thread nD τ), osem k) 0)

theorem osem_four (ch : Fin 8) : osem (ch, 0) = .dma (semS ch 0) ∧ osem (ch, 1) = .dma (semS ch 1)
    ∧ osem (ch, 2) = .dma (semR ch 0) ∧ osem (ch, 3) = .dma (semR ch 1) := by
  revert ch; decide

/-- Four parts, one by one. -/
theorem big_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem opened_posn (c : Dev nD) : (opened c : sProp 𝕄) ⊢ bigSep Finset.univ fun ch => iprop(posn c ch 0 ∗ posn c ch 1) := by
  unfold opened
  rw [bigSep_univ_prod]
  refine big_mono fun ch _ => ?_
  obtain ⟨e0, e1, e2, e3⟩ := osem_four ch
  rw [big_four, e0, e1, e2, e3]
  unfold posn
  rw [show 0 / 2 = 0 from rfl]
  iintro ⟨⟨H1, H2⟩, ⟨H3, H4⟩, ⟨H5, H6⟩, ⟨H7, H8⟩⟩
  isplitl [H1 H2 H5 H6]
  · isplitl [H1]; · iexact H1
    isplitl [H5]; · iexact H5
    isplitl [H2]; · iexact H2
    iexact H6
  · isplitl [H3]; · iexact H3
    isplitl [H7]; · iexact H7
    isplitl [H4]; · iexact H4
    iexact H8

/-- That the receive cells are open comes with their places. -/
theorem posn_fresh (c : Dev nD) : (bigSep Finset.univ fun ch => (iprop(posn c ch 0 ∗ posn c ch 1) : sProp 𝕄))
    ⊢ iprop((bigSep Finset.univ fun ch => iprop(posn c ch 0 ∗ posn c ch 1)) ∗ bigSep Finset.univ (fresh c)) := by
  rw [← bigSep_sep']
  refine big_mono fun ch _ => ?_
  unfold posn fresh
  iintro ⟨⟨H1, H2, #H3, #H4⟩, H5⟩
  isplitl [H1 H2 H5]
  · isplitl [H1 H2]
    · isplitl [H1]; · iexact H1
      isplitl [H2]; · iexact H2
      isplitr
      · iexact H3
      · iexact H4
    · iexact H5
  · iexact H4

/-! ## A stream's end -/

/-- A finished stream gives its landing buffer back, and its cells' places past their last duty. -/
theorem chan_end (X : Blocks F) (c : Dev nD) (ch : Fin 8) :
    Chan X c ch (len ch) (len ch) ⊢ iprop(bufAny c ch ∗ posn c ch (len ch) ∗ posn c ch (len ch + 1)) := by
  unfold Chan lent
  rw [if_pos rfl]
  iintro ⟨Hr, Hl, Hl', -, -, Hp, Hp', -⟩
  isplitl [Hr Hl Hl']
  · ihave H := (show iprop((bigSep (Finset.range (len ch + 1)) fun j => slotP c ch j fullShare.left (sv X c ch j))
        ∗ bigSep (Finset.range (len ch + 1)) fun j => slotP c ch j fullShare.right (sv X c ch j)) ⊢ bufAny c ch by
      rw [← bigSep_sep']
      exact (big_mono fun j _ => (slotP_halves c ch j (sv X c ch j)).2).trans (buf_join c ch fun j => sv X c ch j)) $$ [Hr Hl Hl']
    · isplitl [Hl Hl']
      · rw [bigSep_range_last]
        isplitl [Hl']; · iexact Hl'
        iexact Hl
      · iexact Hr
    iexact H
  · isplitl [Hp]; · iexact Hp
    iexact Hp'

/-- A hop's two cells past their last duty are closed at zero. -/
theorem close_posn (X : Blocks F) (K : GSem nD τ sig → ℕ) (c : Dev nD) (ch : Fin 8) (h : ℕ) (hh : len ch ≤ h) :
    iprop(records X K ∗ posn c ch h) ⊢ (|={Set.univ}=> (semVal (sendCell c ch h) 0 ∗ semVal (recvCell c ch h) 0) : sProp 𝕄) := by
  unfold posn
  iintro ⟨#HR, H1, H2, -⟩
  ihave #HIs := (inv_send X K c ch h) $$ HR
  ihave #HIr := (inv_recv X K c ch h) $$ HR
  imod (Rounds.cell_close ER (Rd X) (Set.mem_univ (K (sendCell c ch h))) (fun h => h) (duties_send_later X c ch hh)) $$ [H1] with H1
  · isplitr; · iexact HIs
    iexact H1
  imod (Rounds.cell_close ER (Rd X) (Set.mem_univ (K (recvCell c ch h))) (fun h => h) (duties_recv_later X c ch hh)) $$ [H2] with H2
  · isplitr; · iexact HIr
    iexact H2
  imodintro
  isplitl [H1]; · iexact H1
  iexact H2

/-- The cells of two hops on end are the stream's four. -/
theorem four_cells (c : Dev nD) (ch : Fin 8) (h : ℕ) :
    (iprop((semVal (sendCell c ch h) 0 ∗ semVal (recvCell c ch h) 0) ∗ (semVal (sendCell c ch (h + 1)) 0 ∗ semVal (recvCell c ch (h + 1)) 0)) : sProp 𝕄)
      ⊢ bigSep Finset.univ fun q : Fin 4 => semVal ((c : Thread nD τ), osem (ch, q)) 0 := by
  obtain ⟨e0, e1, e2, e3⟩ := osem_four ch
  rw [big_four, e0, e1, e2, e3]
  have es : ∀ a b, a % 2 = b % 2 → sendCell c ch a = sendCell c ch b := fun a b e => congrArg (fun s => ((c : Thread nD τ), SemLoc.dma s)) (semS_mod e)
  have er : ∀ a b, a % 2 = b % 2 → recvCell c ch a = recvCell c ch b := fun a b e => congrArg (fun s => ((c : Thread nD τ), SemLoc.dma s)) (semR_mod e)
  rcases Nat.mod_two_eq_zero_or_one h with e | e
  · rw [es h 0 (by omega), er h 0 (by omega), es (h + 1) 1 (by omega), er (h + 1) 1 (by omega)]
    iintro ⟨⟨H1, H2⟩, H3, H4⟩
    isplitl [H1]; · iexact H1
    isplitl [H3]; · iexact H3
    isplitl [H2]; · iexact H2
    iexact H4
  · rw [es h 1 (by omega), er h 1 (by omega), es (h + 1) 0 (by omega), er (h + 1) 0 (by omega)]
    iintro ⟨⟨H1, H2⟩, H3, H4⟩
    isplitl [H3]; · iexact H3
    isplitl [H1]; · iexact H1
    isplitl [H4]; · iexact H4
    iexact H2

/-- Finished streams give the landing buffers back, and all their cells at zero. -/
theorem chans_end (X : Blocks F) (K : GSem nD τ sig → ℕ) (c : Dev nD) :
    iprop(records X K ∗ bigSep Finset.univ fun ch => Chan X c ch (len ch) (len ch))
      ⊢ (|={Set.univ}=> ((bigSep Finset.univ fun ch => bufAny c ch) ∗ bigSep Finset.univ fun k : Fin 8 × Fin 4 => semVal ((c : Thread nD τ), osem k) 0) : sProp 𝕄) := by
  rw [bigSep_univ_prod, ← bigSep_sep']
  refine (bigSep_with_persistent (Ψ := fun ch => iprop(|={Set.univ}=> (bufAny c ch ∗ bigSep Finset.univ fun q : Fin 4 => semVal ((c : Thread nD τ), osem (ch, q)) 0)))
    fun ch _ => ?_).trans (bigSep_fupd _ _)
  iintro ⟨#HR, H⟩
  ihave H' := (chan_end X c ch) $$ H
  icases H' with ⟨Hb, Hp, Hp'⟩
  imod (close_posn X K c ch (len ch) (Nat.le_refl _)) $$ [Hp] with Hp
  · isplitr; · iexact HR
    iexact Hp
  imod (close_posn X K c ch (len ch + 1) (Nat.le_succ _)) $$ [Hp'] with Hp'
  · isplitr; · iexact HR
    iexact Hp'
  imodintro
  isplitl [Hb]; · iexact Hb
  iapply (four_cells c ch (len ch))
  isplitl [Hp]; · iexact Hp
  iexact Hp'

/-! ## Filling slot 0 -/

/-- A slot holding anything holds something. -/
theorem slotAny_some (c : Dev nD) (ch : Fin 8) (j : ℕ) : (slotAny c ch j : sProp 𝕄) ⊢ iprop(∃ x, slotP c ch j fullShare x) := by
  unfold slotAny slotP
  iintro ⟨%f, H⟩
  iexists ((slot ch j).view.read (Elt F) f)
  iapply (pointsTo_rep_of_read (c : Thread nD τ) (slot ch j) f fullShare _ rfl)
  iexact H

/-- Filling slot 0 of stream `ch`'s landing buffer with its rows of the device's block. -/
theorem fill_step (X : Blocks F) (c : Dev nD) (ch : Fin 8) (Q : PUnit → sProp 𝕄) :
    iprop(xP c (X c) ∗ slotAny c ch 0 ∗ ((xP c (X c) ∗ slotP c ch 0 fullShare (sv X c ch 0)) -∗ Q ⟨⟩))
      ⊢ WP c (fillP ch (64 * (ch.val % 4)) (inbG ch.val)) Q := by
  unfold fillP xP
  rw [Prog.lift]
  simp only [Prog.bind_op, Prog.bind_ret]
  iintro ⟨Hx, Hs, Hk⟩
  iapply (wp_load 𝒱₀ (c : Thread nD τ) none Set.univ (m := xM) (S := Finset.univ) (Finset.subset_univ _)) $$ [Hx]
  · iexact Hx
  iintro Hx
  ihave Hs' := (slotAny_some c ch 0) $$ Hs
  icases Hs' with ⟨%x, Hs⟩
  istop
  refine (show _ ⊢ iprop(slotP c ch 0 fullShare x ∗ (((xM : Memref sig .tc .vmem S256x1024 .i32).view.loc (c : Thread nD τ) ↦{fullShare} X c)
    ∗ ((((xM : Memref sig .tc .vmem S256x1024 .i32).view.loc (c : Thread nD τ) ↦{fullShare} X c) ∗ slotP c ch 0 fullShare (sv X c ch 0)) -∗ Q ⟨⟩))) from ?_).trans
    (wp_loadSlot c ch 0 fullShare x _ Q _ fun v _ => ?_)
  · iintro ⟨⟨Hk, Hx⟩, Hs⟩
    isplitl [Hs]; · iexact Hs
    isplitl [Hx]; · iexact Hx
    iexact Hk
  · refine (show _ ⊢ iprop(slotAny c ch 0 ∗ (((xM : Memref sig .tc .vmem S256x1024 .i32).view.loc (c : Thread nD τ) ↦{fullShare} X c)
      ∗ ((((xM : Memref sig .tc .vmem S256x1024 .i32).view.loc (c : Thread nD τ) ↦{fullShare} X c) ∗ slotP c ch 0 fullShare (sv X c ch 0)) -∗ Q ⟨⟩))) from ?_).trans
      (wp_storeSlot c ch _ Q _ ?_)
    · iintro ⟨Hs, H⟩
      isplitl [Hs]; · iapply (slotAny_of c ch 0 x); iexact Hs
      iexact H
    · rw [show shapeCast S64x1024 ((xM : Memref sig .tc .vmem S256x1024 .i32).view.readAt (Elt F)
        (Rect.unit (s := S256x1024) ![64 * (ch.val % 4), 0] S64x1024.size (inbG ch.val)).toLoadRect (X c)) shapeCasts_S64x1024_S64x1024 = sv X c ch 0 from
        funext fun i => congrArg _ (Shape.reshapeEquiv_self _ i)]
      iintro ⟨Hs, Hx, Hk⟩
      iapply Hk
      isplitl [Hx]; · iexact Hx
      iexact Hs

end Cert.Proof.Run
end
-- ==== Proof.Body.lean ====
/-
  The whole body of a device: the entry handshake, the scale, slot 0 of every landing buffer, the actions, and the cells
  closed.
-/
module

public import proofs.«01_k».proof.Proof.Ends

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slot 0 of every landing buffer -/

/-- Fill slot 0 of the landing buffers of a list of streams. -/
def runFills : List (Fin 8) → BProg (F := F) PUnit
  | [] => pure ⟨⟩
  | ch :: l => do fillP ch (64 * (ch.val % 4)) (inbG ch.val); runFills l

theorem fills_run (X : Blocks F) (c : Dev nD) (l : List (Fin 8)) (hl : l.Nodup) (Q : PUnit → sProp 𝕄) :
    iprop(xP c (X c) ∗ (bigSep l.toFinset fun ch => slotAny c ch 0)
        ∗ ((xP c (X c) ∗ bigSep l.toFinset fun ch => slotP c ch 0 fullShare (sv X c ch 0)) -∗ Q ⟨⟩))
      ⊢ WP c (runFills l) Q := by
  induction l generalizing Q with
  | nil =>
    show _ ⊢ WP c (Prog.ret ⟨⟩) Q
    unfold WP
    rw [wp_ret, List.toFinset_nil, bigSep_empty, bigSep_empty]
    iintro ⟨Hx, -, Hk⟩
    imodintro
    iapply Hk
    isplitl [Hx]; · iexact Hx
    iempintro
  | cons ch l ih =>
    have hn : ch ∉ l.toFinset := fun h => (List.nodup_cons.mp hl).1 (List.mem_toFinset.mp h)
    show _ ⊢ WP c (fillP ch (64 * (ch.val % 4)) (inbG ch.val) >>= fun _ => runFills l) Q
    unfold WP
    rw [wp_bind, List.toFinset_cons, big_insert hn, big_insert hn]
    iintro ⟨Hx, ⟨Hs, Hss⟩, Hk⟩
    iapply (fill_step X c ch _)
    isplitl [Hx]; · iexact Hx
    isplitl [Hs]; · iexact Hs
    iintro ⟨Hx, Hs⟩
    iapply (ih (List.nodup_cons.mp hl).2 Q)
    isplitl [Hx]; · iexact Hx
    isplitl [Hss]; · iexact Hss
    iintro ⟨Hx, Hss⟩
    iapply Hk
    isplitl [Hx]; · iexact Hx
    isplitl [Hs]; · iexact Hs
    iexact Hss

theorem fillsP_eq : fillsP (F := F) = runFills [0, 4, 1, 5, 2, 6, 3, 7] := by
  rfl

/-! ## The scale -/

/-- The word of the first scalar. -/
def aP (c : Dev nD) (a : Vec F S1 .f32) : sProp 𝕄 := (Memref.whole cc0_stg2_0 : Memref sig .tc .smem S1 .f32).view.loc (c : Thread nD τ) ↦{fullShare} a
/-- The word of the second scalar. -/
def bP (c : Dev nD) (b : Vec F S1 .f32) : sProp 𝕄 := (Memref.whole cc0_stg3_0 : Memref sig .tc .smem S1 .f32).view.loc (c : Thread nD τ) ↦{fullShare} b

/-- The only index of a one-element vector. -/
def only : S1.Idx := Shape.Idx.first (by decide)
/-- The scale of the products. -/
def scaleV (a b : Vec F S1 .f32) : F .f32 := Scalar.mulf (a only) (b only)

theorem only_eq (x : S1.Idx) : x = only := funext fun d => by
  fin_cases d; exact Subsingleton.elim (α := Fin 1) _ _

theorem scale_step (c : Dev nD) (a b : Vec F S1 .f32) (Q : F .f32 → sProp 𝕄) :
    iprop(aP c a ∗ bP c b ∗ ((aP c a ∗ bP c b) -∗ Q (scaleV a b))) ⊢ WP c scaleP Q := by
  unfold scaleP smemLoad aP bP
  iintro ⟨Ha, Hb, Hk⟩
  unfold WP
  rw [wp_bind]
  iapply (wp_smemLoadElt 𝒱₀ (c : Thread nD τ) none Set.univ (S := Finset.univ) (Finset.subset_univ _)) $$ [Ha]
  · iexact Ha
  iintro Ha
  rw [wp_ret]
  imodintro
  rw [wp_bind]
  iapply (wp_smemLoadElt 𝒱₀ (c : Thread nD τ) none Set.univ (S := Finset.univ) (Finset.subset_univ _)) $$ [Hb]
  · iexact Hb
  iintro Hb
  rw [wp_ret]
  imodintro
  rw [Prog.pure_eq_ret, wp_ret]
  imodintro
  have e1 : ∀ x : (Rect.unit (s := S1) ![0] S1.size inb_S1_S1_0).shape.Idx,
      ((Memref.whole cc0_stg2_0 : Memref sig .tc .smem S1 .f32).access (Rect.unit (s := S1) ![0] S1.size inb_S1_S1_0)).read (Elt F) a x = a only :=
    fun x => congrArg a (only_eq _)
  have e2 : ∀ x : (Rect.unit (s := S1) ![0] S1.size inb_S1_S1_0).shape.Idx,
      ((Memref.whole cc0_stg3_0 : Memref sig .tc .smem S1 .f32).access (Rect.unit (s := S1) ![0] S1.size inb_S1_S1_0)).read (Elt F) b x = b only :=
    fun x => congrArg b (only_eq _)
  rw [e1, e2]
  unfold scaleV
  iapply Hk
  isplitl [Ha]; · iexact Ha
  iexact Hb

/-! ## The body -/

section Body
variable (X : Blocks F) (K : GSem nD τ sig → ℕ) (c : Dev nD)

/-- The duties of the entry signals. -/
def knocks (c : Dev nD) : sProp 𝕄 := iprop(dutyTok ER (barCell (prv c)) 0 true ∗ dutyTok ER (barCell (nxt c)) 0 false)

/-- What the device's part of the ring starts from. -/
def ringPre : sProp 𝕄 :=
  iprop(records X K ∗ atPos ER (barCell c) 0 ∅ 0 ∗ opened c ∗ knocks c ∗ (bigSep Finset.univ fun ch => toks c ch)
    ∗ cred (tallyAt (barCell c) 0 2) ∗ (bigSep Finset.univ fun ch => dues c ch))
/-- What it gives back: every cell at zero. -/
def ringPost : sProp 𝕄 :=
  iprop(semVal (barCell c) 0 ∗ bigSep Finset.univ fun k : Fin 8 × Fin 4 => semVal ((c : Thread nD τ), osem k) 0)

/-- The body, from what the launch hands a device to every cell closed and the result stored. -/
theorem body_run (w : Vec F S4096x128 .fp8e4m3) (a b : Vec F S1 .f32) (Q : PUnit → sProp 𝕄) :
    iprop(ringPre X K c ∗ (bigSep Finset.univ fun ch => bufAny c ch) ∗ (∃ W, owes (c : Thread nD τ) (O₀ c) W)
        ∗ xP c (X c) ∗ wP c w ∗ aP c a ∗ bP c b ∗ (∃ f, oP c f)
        ∗ ((ringPost c ∗ (bigSep Finset.univ fun ch => bufAny c ch) ∗ (∃ W, owes (c : Thread nD τ) 0 W)
          ∗ xP c (X c) ∗ wP c w ∗ aP c a ∗ bP c b ∗ oP c (outV X w (scaleV a b) c)) -∗ Q ⟨⟩))
      ⊢ WP c bodyP Q := by
  unfold bodyP enterP ringPre knocks
  simp only [semSignalWord, semWaitWord, Prog.lift, Prog.bind_op, Prog.bind_ret, Prog.pure_eq_ret]
  unfold WP
  rw [wp_deviceId]
  iintro ⟨⟨#HR, HaB, Hop, ⟨Hk1, Hk2⟩, Htoks, HcB, Hdues⟩, Hbufs, ⟨%W, HO⟩, Hx, Hw, Ha, Hb, ⟨%f, Ho⟩, Hk⟩
  ihave Hp := (opened_posn c) $$ Hop
  ihave Hp' := (posn_fresh c) $$ Hp
  icases Hp' with ⟨Hp, Hfr⟩
  ihave Hfr' := (Entails.of_eq (big_dirs (F := F) (fresh c))) $$ Hfr
  icases Hfr' with ⟨Hf1, Hf2⟩
  ihave Hb' := (bufs_out c) $$ Hbufs
  icases Hb' with ⟨Hs0, Hr1, Hr2⟩
  ihave #HI1 := (inv_bar X K (prv c)) $$ HR
  ihave #HI2 := (inv_bar X K (nxt c)) $$ HR
  ihave #HI := (inv_bar X K c) $$ HR
  ihave #Hz1 := (reached_bar X K (prv c)) $$ HR
  ihave #Hz2 := (reached_bar X K (nxt c)) $$ HR
  -- the signal to the previous device: the slots it fills
  rw [show (⟨k0_dev1 c, k0_dev1_lt c⟩ : Dev nD) = prv c from dev1_eq c, show (⟨k0_dev2 c, k0_dev2_lt c⟩ : Dev nD) = nxt c from dev2_eq c]
  iapply (Rounds.wp_signal 𝒱₀ ER (Rd X) (c : Thread nD τ) none (dst := (prv c : Thread nD τ)) (sem := sig.barrier 0 rfl) (r := 0) (d := true) (κ := K (barCell (prv c)))
      (by rw [duties_bar]; exact Finset.mem_univ _) (amount_bar X (prv c) 0 true) 0 (owed c (fun _ => 0) + tallyAt (barCell (nxt c)) 0 1) rfl) $$ [HO Hk1 Hr1 Hf1]
  · isplitr; · iexact HI1
    isplitl [HO]; · iexact HO
    isplitl [Hk1]; · iexact Hk1
    isplitl [Hr1 Hf1]
    · rw [payload_bar, barPay_of c (prv c) true (tgt_prv c)]
      isplitl [Hr1]; · iexact Hr1
      iexact Hf1
    · iexact Hz1
  iintro HO
  -- the signal to the next device
  iapply (Rounds.wp_signal 𝒱₀ ER (Rd X) (c : Thread nD τ) none (dst := (nxt c : Thread nD τ)) (sem := sig.barrier 0 rfl) (r := 0) (d := false) (κ := K (barCell (nxt c)))
      (by rw [duties_bar]; exact Finset.mem_univ _) (amount_bar X (nxt c) 0 false) 0 (owed c (fun _ => 0)) rfl) $$ [HO Hk2 Hr2 Hf2]
  · isplitr; · iexact HI2
    isplitl [HO]; · iexact HO
    isplitl [Hk2]; · iexact Hk2
    isplitl [Hr2 Hf2]
    · rw [payload_bar, barPay_of c (nxt c) false (tgt_nxt c)]
      isplitl [Hr2]; · iexact Hr2
      iexact Hf2
    · iexact Hz2
  iintro HO
  -- the wait for both neighbours' signals
  iapply (Rounds.wp_wait_rest_token 𝒱₀ ER (Rd X) (c : Thread nD τ) none (κ := K (barCell c))
      (wpE_semWait_eq 𝒱₀ (c : Thread nD τ) none Set.univ) (Set.mem_univ _) 0 (O := owed c (fun _ => 0)) (W := W) (R := 0) (m := 0) (T := ∅)
      ((Nat.zero_add 2).trans (expect_bar X c).symm)) $$ [HcB HO HaB]
  · isplitr; · iexact HI
    isplitl [HcB]; · iexact HcB
    isplitl [HO]; · iexact HO
    isplitr
    · iapply ((@records_levs F _ X K).trans <| mayWait_of c (.reg (sig.barrier 0 rfl)) 0 (by decide) (fun _ => 0) (fun ch' k _ _ => by
        show 1 < _; omega)); iexact HR
    iexact HaB
  iintro ⟨HO, HaB, -, Hpay⟩
  ihave Hpay := (Entails.of_eq (rest_bar X c)) $$ Hpay
  ihave Hpay := (Entails.of_eq (barPay_both (F := F) c)) $$ Hpay
  icases Hpay with ⟨Hrows, Hfr⟩
  rw [wp_bind]
  iapply (scale_step c a b _)
  isplitl [Ha]; · iexact Ha
  isplitl [Hb]; · iexact Hb
  iintro ⟨Ha, Hb⟩
  rw [wp_bind, fillsP_eq]
  iapply (fills_run X c [0, 4, 1, 5, 2, 6, 3, 7] (by decide) _)
  rw [show ([0, 4, 1, 5, 2, 6, 3, 7] : List (Fin 8)).toFinset = Finset.univ from by decide]
  isplitl [Hx]; · iexact Hx
  isplitl [Hs0]; · iexact Hs0
  iintro ⟨Hx, Hs0⟩
  ihave Hch := (chans_start X c) $$ [Hs0 Htoks Hrows Hdues Hp Hfr]
  · isplitl [Hs0]; · iexact Hs0
    isplitl [Htoks]; · iexact Htoks
    isplitl [Hrows]; · iexact Hrows
    isplitl [Hdues]; · iexact Hdues
    isplitl [Hp]; · iexact Hp
    iexact Hfr
  iapply (wp_fupd frame _ Set.univ)
  iapply (acts_run X K c (scaleV a b) w acts far0 acts_ok _)
  isplitr; · iexact HR
  isplitl [Hch HO Hx Hw Ho]
  · unfold At far0
    isplitl [Hch]; · iexact Hch
    isplitl [HO]; · iexists _; iexact HO
    isplitl [Hx]; · iexact Hx
    isplitl [Hw]; · iexact Hw
    iexists f
    isplitr
    · ipureintro; rintro i ⟨a, h, -⟩; exact absurd h (List.not_mem_nil)
    · iexact Ho
  unfold At
  iintro ⟨Hch, ⟨%W', HO⟩, Hx, Hw, ⟨%f', %hf, Ho⟩⟩
  obtain rfl : f' = outV X w (scaleV a b) c := funext fun i => hf i (all_covered c i)
  ihave HO := (Entails.of_eq (by rw [owed_done c _ (fun ch => Nat.le_of_eq (acts_done ch).2.symm)]) :
    (owes (c : Thread nD τ) (owed c (acts.foldl Far.next far0).s) W' : sProp 𝕄) ⊢ owes (c : Thread nD τ) 0 W') $$ HO
  ihave Hch := (Entails.of_eq (bigSep_congr fun ch _ => by rw [(acts_done ch).1, (acts_done ch).2]) :
    (bigSep Finset.univ fun ch => (Chan X c ch ((acts.foldl Far.next far0).b ch) ((acts.foldl Far.next far0).s ch) : sProp 𝕄))
      ⊢ bigSep Finset.univ fun ch => Chan X c ch (len ch) (len ch)) $$ Hch
  imod (chans_end X K c) $$ [Hch] with ⟨Hbufs, Hsems⟩
  · isplitr; · iexact HR
    iexact Hch
  imod (Rounds.cell_close ER (Rd X) (Set.mem_univ (K (barCell c))) (fun h => h) (duties_bar_later X c)) $$ [HaB] with Hsem
  · isplitr; · iexact HI
    iexact HaB
  imodintro
  iapply Hk
  isplitl [Hsem Hsems]
  · unfold ringPost
    isplitl [Hsem]; · iexact Hsem
    iexact Hsems
  isplitl [Hbufs]; · iexact Hbufs
  isplitl [HO]; · iexists W'; iexact HO
  isplitl [Hx]; · iexact Hx
  isplitl [Hw]; · iexact Hw
  isplitl [Ha]; · iexact Ha
  isplitl [Hb]; · iexact Hb
  iexact Ho

end Body

end Cert.Proof.Run
end
-- ==== Proof.Data.lean ====
/-
  What the pipeline around the body holds: the arrays as the host operations leave them, what a device starts its part
  of the ring from and what it gives back, and that the body leaves the product in the result's buffer.
-/
module

public import proofs.«01_k».proof.Proof.Body
public import proofs.«01_k».proof.Proof.Gen.KernelIdeal.Frame
public import Idealize.ShloMosaic.Lib.Pipeline.RegionTalk
public import Idealize.ShloMosaic.Lib.Pipeline.Value

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## Contents -/

/-- The packed blocks the devices start the kernel with. -/
def xs : Blocks F := fun d => Cert.KernelIdeal.Gen.V m d main_v2
/-- The regrouped weights a device starts the kernel with. -/
def ws (c : Dev nD) : Vec F S4096x128 .fp8e4m3 := Cert.KernelIdeal.Gen.V m c main_v5
/-- The two scales' product on a device. -/
def scs (c : Dev nD) : F .f32 := scaleV (Cert.KernelIdeal.Gen.V m c main_arg2) (Cert.KernelIdeal.Gen.V m c main_arg3)
/-- The result of the kernel on a device. -/
def outs (c : Dev nD) : Vec F S4096x128 .f32 := outV (xs m) (ws m c) (scs m c) c

/-- The result's array, as the contents of a window. -/
def afters (c : Dev nD) : (w : Fin cfg0.W) → (cfg0.win w).block.Idx → Elt F (cfg0.win w).elt := fun
  | 0 => xs m c
  | 1 => ws m c
  | 2 => Cert.KernelIdeal.Gen.V m c main_arg2
  | 3 => Cert.KernelIdeal.Gen.V m c main_arg3
  | 4 => outs m c
  | ⟨_ + 5, h⟩ => absurd h (Nat.not_lt.2 (Nat.le_add_left _ _))

/-! ## The invariant around the body -/

/-- What a device's part of the ring starts from, under some names. -/
def ringStart (c : Dev nD) : sProp 𝕄 := iprop(∃ K, ringPre (xs m) K c)

/-- The pipeline's data on a device: the arrays as the host operations leave them; before the body the ring's start and
    the landing buffers, after it every cell at zero and the landing buffers. -/
def dat (c : Dev nD) : Dat τ (Elt F) ℕ ℕ UU ℕ cfg0 c where
  A w := Cert.KernelIdeal.Gen.V m c (Pipeline.arrRef spec0 w)
  after w _ := afters m c w
  Φ t := if t.val = 0 then iprop(ringStart m c ∗ (bigSep Finset.univ fun ch => bufAny c ch) ∗ ∃ r, prngReg c r)
    else iprop(ringPost c ∗ (bigSep Finset.univ fun ch => bufAny c ch) ∗ ∃ r, prngReg c r)
  q _ := fullShare
  owed t := if t.val = 0 then O₀ c else 0
  recorded _ := Set.univ

/-! ## A window is its whole array -/

theorem read_x (c : Dev nD) (t : Fin cfg0.N) : Cert.KernelIdeal.Gen.iblk m c 0 t = xs m c := by
  funext y
  show Cert.KernelIdeal.Gen.V m c main_v2 _ = Cert.KernelIdeal.Gen.V m c main_v2 y
  exact congrArg _ (funext fun a => Fin.ext (Pipeline.Window.rect_emb_val_of_index_zero win0_0 t a rfl y))
theorem read_w (c : Dev nD) (t : Fin cfg0.N) : Cert.KernelIdeal.Gen.iblk m c 1 t = ws m c := by
  funext y
  show Cert.KernelIdeal.Gen.V m c main_v5 _ = Cert.KernelIdeal.Gen.V m c main_v5 y
  exact congrArg _ (funext fun a => Fin.ext (Pipeline.Window.rect_emb_val_of_index_zero win0_1 t a rfl y))
theorem read_a (c : Dev nD) (t : Fin cfg0.N) : Cert.KernelIdeal.Gen.iblk m c 2 t = Cert.KernelIdeal.Gen.V m c main_arg2 := by
  funext y
  show Cert.KernelIdeal.Gen.V m c main_arg2 _ = Cert.KernelIdeal.Gen.V m c main_arg2 y
  exact congrArg _ (funext fun a => Fin.ext (Pipeline.Window.rect_emb_val_of_index_zero win0_2 t a rfl y))
theorem read_b (c : Dev nD) (t : Fin cfg0.N) : Cert.KernelIdeal.Gen.iblk m c 3 t = Cert.KernelIdeal.Gen.V m c main_arg3 := by
  funext y
  show Cert.KernelIdeal.Gen.V m c main_arg3 _ = Cert.KernelIdeal.Gen.V m c main_arg3 y
  exact congrArg _ (funext fun a => Fin.ext (Pipeline.Window.rect_emb_val_of_index_zero win0_3 t a rfl y))
theorem emb_o (t : Fin cfg0.N) (y : S4096x128.Idx) : ((cfg0.win 4).blk t).view.emb y = y :=
  funext fun a => Fin.ext (Pipeline.Window.rect_emb_val_of_index_zero win0_4 t a rfl y)

/-! An input window's buffer holds its array when the body starts. -/

theorem before_x (c : Dev nD) (t : Fin cfg0.N) (d) : (dat m c).before 0 t d = afters m c 0 :=
  ((dat m c).before_in_eq_fetched 0 rfl (fun _ => rfl) (fun _ _ _ => rfl) (fun t => (read_x m c t).symm) t d).trans (read_x m c t)
theorem before_w (c : Dev nD) (t : Fin cfg0.N) (d) : (dat m c).before 1 t d = afters m c 1 :=
  ((dat m c).before_in_eq_fetched 1 rfl (fun _ => rfl) (fun _ _ _ => rfl) (fun t => (read_w m c t).symm) t d).trans (read_w m c t)
theorem before_a (c : Dev nD) (t : Fin cfg0.N) (d) : (dat m c).before 2 t d = afters m c 2 :=
  ((dat m c).before_in_eq_fetched 2 rfl (fun _ => rfl) (fun _ _ _ => rfl) (fun t => (read_a m c t).symm) t d).trans (read_a m c t)
theorem before_b (c : Dev nD) (t : Fin cfg0.N) (d) : (dat m c).before 3 t d = afters m c 3 :=
  ((dat m c).before_in_eq_fetched 3 rfl (fun _ => rfl) (fun _ _ _ => rfl) (fun t => (read_b m c t).symm) t d).trans (read_b m c t)

/-- The result's array at the end. -/
theorem arr_out (c : Dev nD) : (dat m c).arrAt 4 cfg0.N = outs m c := by
  refine (dat m c).arrAt_eq_of_cover 4 (outs m c) (fun t _ => ?_) (fun i => ⟨Cert.KernelIdeal.Gen.t0_0, Cert.KernelIdeal.Gen.flush0_4 _, ?_⟩)
  · funext y
    show outs m c y = outs m c (((cfg0.win 4).blk t).view.emb y)
    rw [emb_o]
  · rw [← emb_o Cert.KernelIdeal.Gen.t0_0 i]; exact View.emb_mem_set _ _

/-! ## The body -/

theorem owesAt_intro (c : Dev nD) (t : Fin (cfg0.N + 1)) (O : CellTallies nD τ sig ℕ) (h0 : (dat m c).owed t = O) (W : Waits sig ℕ) :
    (owes (c : Thread nD τ) O W : sProp 𝕄) ⊢ ((dat m c).owesAt 0 t : sProp 𝕄) := by
  unfold Dat.owesAt Pipeline.owesWithin Dat.bound
  rw [h0]
  iintro HO
  iexists W
  isplitr
  · ipureintro; exact fun _ _ => Or.inl trivial
  · iexact HO
theorem owesAt_elim (c : Dev nD) (t : Fin (cfg0.N + 1)) (O : CellTallies nD τ sig ℕ) (h0 : (dat m c).owed t = O) :
    ((dat m c).owesAt 0 t : sProp 𝕄) ⊢ iprop(∃ W, owes (c : Thread nD τ) O W) := by
  unfold Dat.owesAt Pipeline.owesWithin
  rw [h0]
  iintro ⟨%W, -, HO⟩
  iexists W
  iexact HO

theorem owed_first (c : Dev nD) (t : Fin (cfg0.N + 1)) (h : t.val = 0) : (dat m c).owed t = O₀ c := if_pos h
theorem owed_last (c : Dev nD) (t : Fin (cfg0.N + 1)) (h : t.val ≠ 0) : (dat m c).owed t = 0 := if_neg h
theorem inv_first (c : Dev nD) (t : Fin (cfg0.N + 1)) (h : t.val = 0) :
    (dat m c).Φ t = iprop(ringStart m c ∗ (bigSep Finset.univ fun ch => bufAny c ch) ∗ ∃ r, prngReg c r) := if_pos h
theorem inv_last (c : Dev nD) (t : Fin (cfg0.N + 1)) (h : t.val ≠ 0) :
    (dat m c).Φ t = iprop(ringPost c ∗ (bigSep Finset.univ fun ch => bufAny c ch) ∗ ∃ r, prngReg c r) := if_neg h

theorem defs₀_row (t : Fin cfg0.N) : defs₀ .tc cfg0.body (cfg0.bodyArgs t (cfg0.slots t)) = Cert.KernelIdeal.Gen.bodyAt0 (F := F) t := by
  unfold defs₀
  rw [Defs.onTc_tc]

theorem body_at (t : Fin cfg0.N) : Cert.KernelIdeal.Gen.bodyAt0 (F := F) t = bodyP := body_eq

/-- A staging buffer after the body, as the windows own them. -/
theorem stage_of (c : Dev nD) (b : Ref sig .tc) (f : Buf (Elt F) ((c : Thread nD τ).loc b)) :
    (((c : Thread nD τ).loc b ↦{fullShare} f) : sProp 𝕄) ⊢ owns (c : Thread nD τ) (Memref.whole b) fullShare f :=
  Entails.of_eq (owns_whole (c : Thread nD τ) b fullShare f).symm
/-- An input's staging buffer before the body. -/
theorem stage_in (c : Dev nD) (b : Ref sig .tc) {I : Type} (g : I → Buf (Elt F) ((c : Thread nD τ).loc b)) (f : Buf (Elt F) ((c : Thread nD τ).loc b))
    (h : ∀ d, g d = f) :
    (iprop(∃ d, owns (c : Thread nD τ) (Memref.whole b) fullShare (g d)) : sProp 𝕄) ⊢ ((c : Thread nD τ).loc b ↦{fullShare} f) := by
  iintro ⟨%d, H⟩
  iapply (Entails.of_eq ((congrArg (fun x => (owns (c : Thread nD τ) (Memref.whole b) fullShare x : sProp 𝕄)) (h d)).trans (owns_whole (c : Thread nD τ) b fullShare f)))
  iexact H
/-- The result's staging buffer before the body. -/
theorem stage_any (c : Dev nD) (b : Ref sig .tc) {I : Type} (g : I → Buf (Elt F) ((c : Thread nD τ).loc b)) :
    (iprop(∃ d, owns (c : Thread nD τ) (Memref.whole b) fullShare (g d)) : sProp 𝕄) ⊢ iprop(∃ f, (c : Thread nD τ).loc b ↦{fullShare} f) := by
  iintro ⟨%d, H⟩
  iexists (g d)
  iapply (Entails.of_eq (owns_whole (c : Thread nD τ) b fullShare (g d)))
  iexact H

theorem in_x (c : Dev nD) (t : Fin cfg0.N) :
    (iprop(∃ d, owns (c : Thread nD τ) ((cfg0.win 0).stage (cfg0.slots t 0)) fullShare ((dat m c).before 0 t d)) : sProp 𝕄) ⊢ xP c (xs m c) :=
  stage_in c cc0_stg0_0 _ _ (fun d => before_x m c t d)
theorem after_x (c : Dev nD) (t : Fin cfg0.N) :
    (xP c (xs m c) : sProp 𝕄) ⊢ owns (c : Thread nD τ) ((cfg0.win 0).stage (cfg0.slots t 0)) fullShare ((dat m c).after 0 t) :=
  stage_of c cc0_stg0_0 _
theorem in_w (c : Dev nD) (t : Fin cfg0.N) :
    (iprop(∃ d, owns (c : Thread nD τ) ((cfg0.win 1).stage (cfg0.slots t 1)) fullShare ((dat m c).before 1 t d)) : sProp 𝕄) ⊢ wP c (ws m c) :=
  stage_in c cc0_stg1_0 _ _ (fun d => before_w m c t d)
theorem after_w (c : Dev nD) (t : Fin cfg0.N) :
    (wP c (ws m c) : sProp 𝕄) ⊢ owns (c : Thread nD τ) ((cfg0.win 1).stage (cfg0.slots t 1)) fullShare ((dat m c).after 1 t) :=
  stage_of c cc0_stg1_0 _
theorem in_a (c : Dev nD) (t : Fin cfg0.N) :
    (iprop(∃ d, owns (c : Thread nD τ) ((cfg0.win 2).stage (cfg0.slots t 2)) fullShare ((dat m c).before 2 t d)) : sProp 𝕄) ⊢ aP c (Cert.KernelIdeal.Gen.V m c main_arg2) :=
  stage_in c cc0_stg2_0 _ _ (fun d => before_a m c t d)
theorem after_a (c : Dev nD) (t : Fin cfg0.N) :
    (aP c (Cert.KernelIdeal.Gen.V m c main_arg2) : sProp 𝕄) ⊢ owns (c : Thread nD τ) ((cfg0.win 2).stage (cfg0.slots t 2)) fullShare ((dat m c).after 2 t) :=
  stage_of c cc0_stg2_0 _
theorem in_b (c : Dev nD) (t : Fin cfg0.N) :
    (iprop(∃ d, owns (c : Thread nD τ) ((cfg0.win 3).stage (cfg0.slots t 3)) fullShare ((dat m c).before 3 t d)) : sProp 𝕄) ⊢ bP c (Cert.KernelIdeal.Gen.V m c main_arg3) :=
  stage_in c cc0_stg3_0 _ _ (fun d => before_b m c t d)
theorem after_b (c : Dev nD) (t : Fin cfg0.N) :
    (bP c (Cert.KernelIdeal.Gen.V m c main_arg3) : sProp 𝕄) ⊢ owns (c : Thread nD τ) ((cfg0.win 3).stage (cfg0.slots t 3)) fullShare ((dat m c).after 3 t) :=
  stage_of c cc0_stg3_0 _
theorem in_o (c : Dev nD) (t : Fin cfg0.N) :
    (iprop(∃ d, owns (c : Thread nD τ) ((cfg0.win 4).stage (cfg0.slots t 4)) fullShare ((dat m c).before 4 t d)) : sProp 𝕄) ⊢ iprop(∃ f, oP c f) :=
  stage_any c cc0_stg4_0 _
theorem after_o (c : Dev nD) (t : Fin cfg0.N) :
    (oP c (outs m c) : sProp 𝕄) ⊢ owns (c : Thread nD τ) ((cfg0.win 4).stage (cfg0.slots t 4)) fullShare ((dat m c).after 4 t) :=
  stage_of c cc0_stg4_0 _

theorem body_hoare (c : Dev nD) (t : Fin cfg0.N) :
    iprop((ringStart m c ∗ (bigSep Finset.univ fun ch => bufAny c ch) ∗ ∃ r, prngReg c r) ∗ (dat m c).owesAt 0 t.castSucc
      ∗ (∃ d, owns (c : Thread nD τ) ((cfg0.win 0).stage (cfg0.slots t 0)) fullShare ((dat m c).before 0 t d))
      ∗ (∃ d, owns (c : Thread nD τ) ((cfg0.win 1).stage (cfg0.slots t 1)) fullShare ((dat m c).before 1 t d))
      ∗ (∃ d, owns (c : Thread nD τ) ((cfg0.win 2).stage (cfg0.slots t 2)) fullShare ((dat m c).before 2 t d))
      ∗ (∃ d, owns (c : Thread nD τ) ((cfg0.win 3).stage (cfg0.slots t 3)) fullShare ((dat m c).before 3 t d))
      ∗ (∃ d, owns (c : Thread nD τ) ((cfg0.win 4).stage (cfg0.slots t 4)) fullShare ((dat m c).before 4 t d)))
    ⊢ WP c bodyP fun _ => iprop((ringPost c ∗ (bigSep Finset.univ fun ch => bufAny c ch) ∗ ∃ r, prngReg c r) ∗ (dat m c).owesAt 0 t.succ
      ∗ owns (c : Thread nD τ) ((cfg0.win 0).stage (cfg0.slots t 0)) fullShare ((dat m c).after 0 t)
      ∗ owns (c : Thread nD τ) ((cfg0.win 1).stage (cfg0.slots t 1)) fullShare ((dat m c).after 1 t)
      ∗ owns (c : Thread nD τ) ((cfg0.win 2).stage (cfg0.slots t 2)) fullShare ((dat m c).after 2 t)
      ∗ owns (c : Thread nD τ) ((cfg0.win 3).stage (cfg0.slots t 3)) fullShare ((dat m c).after 3 t)
      ∗ owns (c : Thread nD τ) ((cfg0.win 4).stage (cfg0.slots t 4)) fullShare ((dat m c).after 4 t)) := by
  unfold ringStart
  iintro ⟨⟨⟨%K, Hr⟩, Hbufs, Hp⟩, HO, H0, H1, H2, H3, H4⟩
  iapply (body_run (xs m) K c (ws m c) (Cert.KernelIdeal.Gen.V m c main_arg2) (Cert.KernelIdeal.Gen.V m c main_arg3) _)
  isplitl [Hr]; · iexact Hr
  isplitl [Hbufs]; · iexact Hbufs
  isplitl [HO]; · iapply (owesAt_elim m c t.castSucc (O₀ c) (owed_first m c t.castSucc (by rw [Cert.KernelIdeal.Gen.fin_N0 t]; rfl))); iexact HO
  isplitl [H0]; · iapply (in_x m c t); iexact H0
  isplitl [H1]; · iapply (in_w m c t); iexact H1
  isplitl [H2]; · iapply (in_a m c t); iexact H2
  isplitl [H3]; · iapply (in_b m c t); iexact H3
  isplitl [H4]; · iapply (in_o m c t); iexact H4
  iintro ⟨Hr, Hbufs, ⟨%W', HO⟩, H0, H1, H2, H3, H4⟩
  isplitl [Hr Hbufs Hp]
  · isplitl [Hr]; · iexact Hr
    isplitl [Hbufs]; · iexact Hbufs
    iexact Hp
  isplitl [HO]; · iapply (owesAt_intro m c t.succ 0 (owed_last m c t.succ (Nat.succ_ne_zero _)) W'); iexact HO
  isplitl [H0]; · iapply (after_x m c t); iexact H0
  isplitl [H1]; · iapply (after_w m c t); iexact H1
  isplitl [H2]; · iapply (after_a m c t); iexact H2
  isplitl [H3]; · iapply (after_b m c t); iexact H3
  iapply (after_o m c t); iexact H4

/-- The pipeline's obligation of the body. -/
theorem body_obligation (c : Dev nD) : BodyObligation (dat m c) defs₀ 𝒱₀ 0 Set.univ := fun t => by
  rw [Cert.KernelIdeal.Gen.bigSep_W0, Cert.KernelIdeal.Gen.bigSep_W0, defs₀_row, body_at,
    inv_first m c t.castSucc (by rw [Cert.KernelIdeal.Gen.fin_N0 t]; rfl), inv_last m c t.succ (Nat.succ_ne_zero _)]
  refine triple_restated (body_hoare m c t) ?_ ?_ ?_
  · rfl
  · exact .rfl
  · exact fun _ => .rfl

end Cert.Proof.Run
end
-- ==== Proof.Region.lean ====
/-
  The program of a device as two segments: the host operations, and the kernel with what the launch keeps for it.
-/
module

public import proofs.«01_k».proof.Proof.Data

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## Contents of a device's buffers -/

/-- A device's buffers as launched. -/
def V₀ (c : Dev nD) : Valuation τ sig (Elt F) := fun b => m (c, b)
/-- After the host operations. -/
def V₁ (c : Dev nD) : Valuation τ sig (Elt F) := StableHlo.after Cert.KernelIdeal.Gen.hostOps0 (V₀ m c)
/-- After the kernel. -/
def V₂ (c : Dev nD) : Valuation τ sig (Elt F) := Function.update (V₁ m c) (Proc.devRef .tc main_v6) (outs m c)

theorem V₁_eq (c : Dev nD) (b : Ref sig .tc) : V₁ m c b = Cert.KernelIdeal.Gen.V m c b := rfl
theorem V₂_out (c : Dev nD) : V₂ m c main_v6 = outs m c := Function.update_self _ _ _
theorem V₂_of_ne (c : Dev nD) (b : DevRef τ sig) (h : b ≠ Proc.devRef .tc main_v6) : V₂ m c b = V₁ m c b := Function.update_of_ne h _ _

/-- The buffers that outlive the kernel. -/
def bufs : Finset (DevRef τ sig) := (StableHlo.tcRefs τ sig).filter fun b => ¬b.isScoped
/-- Those the kernel takes or returns. -/
def arrs : Finset (DevRef τ sig) := Pipeline.arrRefs (τ := τ) spec0
/-- The others. -/
def rest : Finset (DevRef τ sig) := bufs \ arrs

theorem arrs_sub : arrs ⊆ bufs := by decide
theorem not_mem_rest : Proc.devRef .tc main_v6 ∉ (rest : Finset (DevRef τ sig)) := by decide

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-! ## What the launch keeps for the kernel -/

/-- A device's own part: its place at its entry cell, the rights to open its other cells, and the duties it pays. -/
def linear (c : Dev nD) : sProp 𝕄 :=
  iprop(atPos ER (barCell c) 0 ∅ 0 ∗ (bigSep Finset.univ fun k : Fin 8 × Fin 4 => openTok ER ((c : Thread nD τ), osem k))
    ∗ knocks c ∗ bigSep Finset.univ fun ch => toks c ch)
/-- A device's credits: two entry signals, and every arrival. -/
def credits (c : Dev nD) : sProp 𝕄 :=
  iprop(cred (tallyAt (barCell c) 0 2) ∗ bigSep Finset.univ fun ch => dues c ch)
/-- What the launch keeps for the kernel on a device. -/
def Tk (c : Dev nD) : sProp 𝕄 := iprop(∃ K, records (xs m) K ∗ linear c ∗ credits c)
/-- What the kernel leaves beside its buffers: its entry cell at zero. -/
def Yk (c : Dev nD) : sProp 𝕄 := semVal (barCell c) 0

/-- Two big separating conjunctions as one. -/
theorem big_pair {I : Type} {S : Finset I} {Φ Ψ : I → sProp 𝕄} : iprop(bigSep S Φ ∗ bigSep S Ψ) ⊢ bigSep S fun i => iprop(Φ i ∗ Ψ i) :=
  Entails.of_eq (bigSep_sep S Φ Ψ).symm
/-- One as two. -/
theorem big_unpair {I : Type} {S : Finset I} {Φ Ψ : I → sProp 𝕄} : (bigSep S fun i => iprop(Φ i ∗ Ψ i)) ⊢ iprop(bigSep S Φ ∗ bigSep S Ψ) :=
  Entails.of_eq (bigSep_sep S Φ Ψ)

theorem open_cells (X : Blocks F) (K : GSem nD τ sig → ℕ) (c : Dev nD) :
    iprop(records X K ∗ (bigSep Finset.univ fun k : Fin 8 × Fin 4 => openTok ER ((c : Thread nD τ), osem k)) ∗ Pipeline.ownSems0 osem c)
      ⊢ (|={Set.univ}=> opened c : sProp 𝕄) := by
  unfold Pipeline.ownSems0 opened
  iintro ⟨#HR, Ho, Hs⟩
  ihave H := (big_pair (F := F)) $$ [Ho Hs]
  · isplitl [Ho]; · iexact Ho
    iexact Hs
  iapply (bigSep_fupd Finset.univ _)
  iapply (bigSep_with_persistent (R := records X K) (Φ := fun k : Fin 8 × Fin 4 => iprop(openTok ER ((c : Thread nD τ), osem k) ∗ semVal ((c : Thread nD τ), osem k) 0)) fun k _ => by
    iintro ⟨#HR, Ho, Hs⟩
    ihave #HI := (inv_own X K c k) $$ HR
    iapply (Rounds.cell_open ER (Rd X) (g := ((c : Thread nD τ), osem k)) (Set.mem_univ _))
    isplitr; · iexact HI
    isplitl [Ho]; · iexact Ho
    iexact Hs)
  isplitr; · iexact HR
  iexact H

theorem hopen (c : Dev nD) : iprop(Tk m c ∗ Pipeline.ownSems0 osem c ∗ levAts L lv) ⊢ (|={Set.univ}=> ringStart m c : sProp 𝕄) := by
  unfold Tk linear credits
  iintro ⟨⟨%K, #HR, ⟨Ha, Ho, Hk, Ht⟩, Hc, Hd⟩, Hs, -⟩
  imod (open_cells (xs m) K c) $$ [Ho Hs] with Hop
  · isplitr; · iexact HR
    isplitl [Ho]; · iexact Ho
    iexact Hs
  imodintro
  unfold ringStart ringPre
  iexists K
  isplitr; · iexact HR
  isplitl [Ha]; · iexact Ha
  isplitl [Hop]; · iexact Hop
  isplitl [Hk]; · iexact Hk
  isplitl [Ht]; · iexact Ht
  isplitl [Hc]; · iexact Hc
  iexact Hd

/-! ## The kernel's segment -/

abbrev adm : (p : Fin 1) → (pcfgs (F := F) p).Adm := fun p => (cfgs p).toPCfg_adm
/-- The pipeline's data, by pipeline. -/
def pdats : (p : Fin 1) → (c : Dev nD) → Dat τ (Elt F) ℕ ℕ UU ℕ (Pipeline.pin (pcfgs (F := F)) adm p) c
  | 0 => dat m

theorem osem_facts : Pipeline.OwnSemFacts spec0 osem := by decide

theorem kitP : Pipeline.PLaunchFacts (nD := nD) (τ := τ) (pcfgs (F := F)) 0 := Cert.KernelIdeal.Gen.launch0.toP

/-- The landing buffers are the scoped buffers that stage no window. -/
theorem scoped_bufs (c : Dev nD) :
    (Pipeline.scopedRest (Ix := ℕ) (Name := ℕ) (U := UU) (Lvl := ℕ) (Val := Elt F) spec0 c : sProp 𝕄) = bigSep Finset.univ fun ch => bufAny c ch := by
  rw [Cert.KernelIdeal.Gen.scopedRest0_eq, bigSep_univ_eq_bigSepL [(0 : Fin 8), 1, 2, 3, 4, 5, 6, 7] (by decide) (by decide)]
  rfl

theorem hin (c : Dev nD) : iprop(Pipeline.scopedRest (Pipeline.pin (pcfgs (F := F)) adm 0).spec c ∗ (∃ r, prngReg c r)
      ∗ StableHlo.held (c.tc : Thread nD τ) ∅ (V₁ m c) ∗ ringStart m c)
    ⊢ (pdats m 0 c).Φ 0 := by
  rw [show (pdats m 0 c).Φ 0 = iprop(ringStart m c ∗ (bigSep Finset.univ fun ch => bufAny c ch) ∗ ∃ r, prngReg c r) from inv_first m c 0 rfl]
  iintro ⟨Hs, Hp, -, Hr⟩
  isplitl [Hr]; · iexact Hr
  isplitl [Hs]; · iapply (Entails.of_eq (scoped_bufs c)); iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(ringPost c ∗ (bigSep Finset.univ fun ch => bufAny c ch) ∗ ∃ r, prngReg c r) from
    inv_last m c (Fin.last _) (by rw [Fin.val_last]; exact Nat.ne_of_gt (by rw [show cfg0.N = 1 from Cert.KernelIdeal.Gen.N_0]; decide))]
  unfold ringPost Yk Pipeline.ownSems0 StableHlo.held
  rw [bigSep_empty]
  iintro ⟨⟨Hb, Hs⟩, Hbufs, Hp⟩
  isplitl [Hbufs]; · iapply (Entails.of_eq (scoped_bufs c).symm); iexact Hbufs
  isplitl [Hp]; · iexact Hp
  isplitr; · iempintro
  isplitl [Hs]; · iexact Hs
  iexact Hb

theorem owed_cut (c : Dev nD) (t : Fin ((Pipeline.pin (pcfgs (F := F)) adm 0).N + 1)) (g : GSem nD τ sig) (i : ℕ)
    (h : 0 < (pdats m 0 c).owed t g i) : i ∈ L g ∧ (0 : ℕ) < lv g i := by
  by_cases ht : t.val = 0
  · rw [show (pdats m 0 c).owed t = O₀ c from owed_first m c t ht] at h
    exact O₀_pos h
  · rw [show (pdats m 0 c).owed t = 0 from owed_last m c t ht] at h
    exact absurd h (Nat.lt_irrefl 0)

theorem stage_sems : ∀ (w : Fin cfg0.W) (s : Fin (cfg0.win w).nbuf), ((cfg0.win w).sem s).val < 5 := by decide

theorem arr_first (c : Dev nD) (w : Fin cfg0.W) : (dat m c).arrAt w 0 = V₁ m c (Proc.devRef .tc (Pipeline.arrRef spec0 w)) := rfl
theorem arr_last (c : Dev nD) (w : Fin cfg0.W) : (dat m c).arrAt w cfg0.N = V₂ m c (Proc.devRef .tc (Pipeline.arrRef spec0 w)) := by
  have hin (w : Fin cfg0.W) (h : (cfg0.win w).isOut = false) (hb : Proc.devRef (τ := τ) .tc (Pipeline.arrRef spec0 w) ≠ Proc.devRef .tc main_v6) :
      (dat m c).arrAt w cfg0.N = V₂ m c (Proc.devRef .tc (Pipeline.arrRef spec0 w)) :=
    ((dat m c).arrAt_in w h _).trans (V₂_of_ne m c _ hb).symm
  match w with
  | 0 => exact hin 0 rfl (by decide)
  | 1 => exact hin 1 rfl (by decide)
  | 2 => exact hin 2 rfl (by decide)
  | 3 => exact hin 3 rfl (by decide)
  | 4 => exact (arr_out m c).trans (V₂_out m c).symm
  | ⟨_ + 5, h⟩ => exact absurd h (Nat.not_lt.2 (Nat.le_add_left _ _))

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

set_option backward.isDefEq.respectTransparency.types false in
/-- The kernel's segment. -/
def reg0 : ℝ𝕊 0 :=
  Pipeline.RegionSeg.ofTalk (pcfgs (F := F)) adm (pdats m) 0 defs₀ 𝒱₀ L lv 0 osem osem_facts
    ∅ rest (Finset.empty_subset _) kitP rfl (fun c => (body_obligation m c).loose)
    (fun _ => 0) O₀ (fun c => (owed_first m c 0 rfl).trans (zero_add _).symm)
    (fun c => owed_last m c (Fin.last _) (by rw [Fin.val_last]; exact Nat.ne_of_gt (by rw [show cfg0.N = 1 from Cert.KernelIdeal.Gen.N_0]; decide)))
    (fun _ => rfl) (fun c w => (dat m c).share_full (fun _ => rfl) w)
    (V₁ m) (V₂ m) (fun c b hb => V₂_of_ne m c b fun e => not_mem_rest (e ▸ (Finset.mem_sdiff.mp hb).1))
    (Tk m) Yk (ringStart m) Yk (hopen m) (hin m) (hout m)
    (fun c => by iintro H; imodintro; iexact H)
    (fun _ => 0)
    ⟨fun c w s => mem_L c _ (by decide), fun c w s => Nat.le_of_eq (lv_stage c _ (stage_sems w s) 0), fun c t g i h => owed_cut m c t g i h⟩
    (fun _ => iprop(emp))
    (fun c w => arr_first m c w) (fun c w => arr_last m c w)

end Cert.Proof.Run
end
-- ==== Proof.Launch.lean ====
/-
  The launch and the run: the program's segments in order, every cell's invariant made and every duty's token, place
  and credit dealt to the device that uses it, and what a run of all devices leaves.
-/
module

public import proofs.«01_k».proof.Proof.Region

@[expose] public section

noncomputable section

namespace Cert.Proof.Run

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The segments -/

/-- What the host operations leave alone: the kernel's part, the random register, and what the device owes. -/
def ride (c : Dev nD) : sProp 𝕄 := iprop(Tk m c ∗ (∃ r, prngReg c r) ∗ ∃ W, owes (c : Thread nD τ) (O₀ c) W)

local notation "ℍ" => Pipeline.HostSeg (Name := ℕ) (U := UU) (pcfgs (F := F)) defs₀ 𝒱₀ L lv

theorem host_sub : ∀ op ∈ (Cert.KernelIdeal.Gen.hostOps0 : List (HloOp τ sig (Elt F))), op.bufs ⊆ bufs :=
  List.forall_iff_forall_mem.mp
    ⟨(by decide : ({Proc.devRef .tc main_arg0, Proc.devRef .tc main_v1} : Finset (DevRef τ sig)) ⊆ bufs),
      (by decide : ({Proc.devRef .tc main_v1, Proc.devRef .tc main_v2} : Finset (DevRef τ sig)) ⊆ bufs),
      (by decide : ({Proc.devRef .tc main_arg1, Proc.devRef .tc main_v3} : Finset (DevRef τ sig)) ⊆ bufs),
      (by decide : ({Proc.devRef .tc main_v3, Proc.devRef .tc main_v4} : Finset (DevRef τ sig)) ⊆ bufs),
      (by decide : ({Proc.devRef .tc main_v4, Proc.devRef .tc main_v5} : Finset (DevRef τ sig)) ⊆ bufs)⟩

/-- The host operations' segment. -/
def seg0 : ℍ :=
  Pipeline.HostSeg.ofOps _ _ _ _ _ bufs Cert.KernelIdeal.Gen.hostOps0 host_sub
    (List.forall_iff_forall_mem.mp Cert.KernelIdeal.Gen.hostOps0_fresh) (V₀ m) (ride m)

/-- The program as its two segments. -/
def segs : List (Pipeline.Seg (pcfgs (F := F)) adm (pdats m) 0 defs₀ 𝒱₀ L lv) := [.host (seg0 m), .region (reg0 m)]

theorem main_eq (c : Dev nD) : main (F := F) c = Pipeline.Seg.run (segs m) :=
  Cert.KernelIdeal.Gen.main_segs adm (pdats m) 0 𝒱₀ L lv (seg0 m) (reg0 m) rfl c

theorem reg0_pre (c : Dev nD) : iprop(StableHlo.held (c : Thread nD τ) bufs (V₁ m c) ∗ ride m c) ⊢ (reg0 m).pre c := by
  show _ ⊢ iprop(StableHlo.held (c.tc : Thread nD τ) arrs (V₁ m c) ∗ (∃ r, prngReg c r)
    ∗ (StableHlo.held (c.tc : Thread nD τ) rest (V₁ m c) ∗ emp) ∗ Tk m c ∗ ∃ Wd, owes (c : Thread nD τ) (0 + O₀ c) Wd)
  rw [zero_add, StableHlo.held_sub_split (c : Thread nD τ) arrs_sub]
  unfold ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop(StableHlo.held (c : Thread nD τ) bufs (V₂ m c) ∗ semVal (barCell c) 0 ∗ ∃ W, owes (c : Thread nD τ) (0 : CellTallies nD τ sig ℕ) W) := by
  show iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig ℕ) Wd) ⊢ _
  rw [StableHlo.held_sub_split (c : Thread nD τ) arrs_sub]
  unfold Yk
  iintro ⟨Ha, -, ⟨Hr, -⟩, Hb, HO⟩
  isplitl [Ha Hr]
  · isplitl [Ha]; · iexact Ha
    iexact Hr
  isplitl [Hb]; · iexact Hb
  iexact HO

/-! ## What the launch makes -/

theorem osem_inj : Function.Injective osem := by decide
theorem osem_ne_bar : ∀ k : Fin 8 × Fin 4, osem k ≠ .reg (sig.barrier 0 rfl) := by decide

/-- The entry cells, which start at their counters. -/
def barEmb : Dev nD ↪ GSem nD τ sig := ⟨fun c => barCell c, fun _ _ h => congrArg (fun g : GSem nD τ sig => g.1.1) h⟩
/-- The streams' cells, which the kernel opens. -/
def cellEmb : Dev nD × (Fin 8 × Fin 4) ↪ GSem nD τ sig :=
  ⟨fun p => ((p.1 : Thread nD τ), osem p.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map cellEmb

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- All hops of all devices. -/
def hops : Finset (Σ _ : Dev nD, Σ _ : Fin 8, ℕ) :=
  Finset.univ.sigma fun _ => Finset.univ.sigma fun ch => Finset.range (len ch)

theorem hop_ext {x y : Σ _ : Dev nD, Σ _ : Fin 8, ℕ} (h₁ : x.1 = y.1) (h₂ : x.2.1 = y.2.1) (h₃ : x.2.2 = y.2.2) : x = y := by
  obtain ⟨c, ch, h⟩ := x; obtain ⟨c', ch', h'⟩ := y
  dsimp only at h₁ h₂ h₃; subst h₁ h₂ h₃; rfl

/-- The duty of a hop's sending half. -/
def sendTok : (Σ _ : Dev nD, Σ _ : Fin 8, ℕ) ↪ GSem nD τ sig × ℕ × Bool :=
  ⟨fun x => (sendCell x.1 x.2.1 x.2.2, x.2.2 / 2, false), fun x y h => by
    have hs : semS x.2.1 x.2.2 = semS y.2.1 y.2.2 := SemLoc.dma.inj (congrArg (fun t : GSem nD τ sig × ℕ × Bool => t.1.2) h)
    have hq : x.2.2 / 2 = y.2.2 / 2 := congrArg (fun t : GSem nD τ sig × ℕ × Bool => t.2.1) h
    have hp : x.2.2 % 2 = y.2.2 % 2 := by rw [← parOf_semS x.2.1, hs, parOf_semS]
    exact hop_ext (congrArg (fun t : GSem nD τ sig × ℕ × Bool => t.1.1.1) h)
      (by rw [← chOf_semS x.2.1 x.2.2, hs, chOf_semS]) (by omega)⟩
/-- The duty of a hop's arrival, at the device it goes to. -/
def recvTok : (Σ _ : Dev nD, Σ _ : Fin 8, ℕ) ↪ GSem nD τ sig × ℕ × Bool :=
  ⟨fun x => (recvCell (tgt x.2.1 x.1) x.2.1 x.2.2, x.2.2 / 2, false), fun x y h => by
    have hs : semR x.2.1 x.2.2 = semR y.2.1 y.2.2 := SemLoc.dma.inj (congrArg (fun t : GSem nD τ sig × ℕ × Bool => t.1.2) h)
    have hq : x.2.2 / 2 = y.2.2 / 2 := congrArg (fun t : GSem nD τ sig × ℕ × Bool => t.2.1) h
    have hp : x.2.2 % 2 = y.2.2 % 2 := by rw [← parOf_semR x.2.1, hs, parOf_semR]
    have hc : x.2.1 = y.2.1 := by rw [← chOf_semR x.2.1 x.2.2, hs, chOf_semR]
    have ht : tgt x.2.1 x.1 = tgt y.2.1 y.1 := congrArg (fun t : GSem nD τ sig × ℕ × Bool => t.1.1.1) h
    exact hop_ext ((ring x.2.1).injective (by show tgt x.2.1 x.1 = tgt x.2.1 y.1; rw [ht, hc])) hc (by omega)⟩
/-- The duty of an entry signal to the previous device. -/
def prvTok : Dev nD ↪ GSem nD τ sig × ℕ × Bool :=
  ⟨fun c => (barCell (prv c), 0, true), fun c d h => by
    have e : prv c = prv d := congrArg (fun t : GSem nD τ sig × ℕ × Bool => t.1.1.1) h
    rw [← nxt_prv c, e, nxt_prv]⟩
/-- The duty of an entry signal to the next device. -/
def nxtTok : Dev nD ↪ GSem nD τ sig × ℕ × Bool :=
  ⟨fun c => (barCell (nxt c), 0, false), fun c d h => by
    have e : nxt c = nxt d := congrArg (fun t : GSem nD τ sig × ℕ × Bool => t.1.1.1) h
    rw [← prv_nxt c, e, prv_nxt]⟩
/-- All duties. -/
def allToks : Finset (GSem nD τ sig × ℕ × Bool) :=
  (Finset.univ.map prvTok ∪ Finset.univ.map nxtTok) ∪ (hops.map sendTok ∪ hops.map recvTok)

theorem disjoint_map {I J K : Type} [DecidableEq K] {S : Finset I} {T : Finset J} {e : I ↪ K} {f : J ↪ K} (h : ∀ i j, e i ≠ f j) :
    Disjoint (S.map e) (T.map f) := by
  rw [Finset.disjoint_left]
  rintro g h₁ h₂
  obtain ⟨i, -, rfl⟩ := Finset.mem_map.mp h₁
  obtain ⟨j, -, e⟩ := Finset.mem_map.mp h₂
  exact h i j e.symm

theorem reg_ne_dma (a : Sem sig) (b : DmaSem sig) : (SemLoc.reg a : SemLoc sig) ≠ .dma b := fun h => nomatch h

/-- A big separating conjunction over two disjoint sets. -/
theorem big_union {I : Type} [DecidableEq I] {S T : Finset I} (h : Disjoint S T) {Φ : I → sProp 𝕄} :
    bigSep (S ∪ T) Φ = iprop(bigSep S Φ ∗ bigSep T Φ) := bigSep_union h

/-- The tokens of all duties, each with the device that pays it. -/
theorem toks_dealt : bigSep allToks (fun x => (dutyTok ER x.1 x.2.1 x.2.2 : sProp 𝕄))
    ⊢ iprop((bigSep Finset.univ fun c : Dev nD => knocks c) ∗ bigSep Finset.univ fun c : Dev nD => bigSep Finset.univ fun ch => toks c ch) := by
  have d₁ : Disjoint ((Finset.univ : Finset (Dev nD)).map prvTok) (Finset.univ.map nxtTok) :=
    disjoint_map fun _ _ h => Bool.noConfusion (congrArg (fun t : GSem nD τ sig × ℕ × Bool => t.2.2) h)
  have d₂ : Disjoint (hops.map sendTok) (hops.map recvTok) := disjoint_map fun x y h =>
    not_isR_semS x.2.1 x.2.2 (by
      rw [show semS x.2.1 x.2.2 = semR y.2.1 y.2.2 from SemLoc.dma.inj (congrArg (fun t : GSem nD τ sig × ℕ × Bool => t.1.2) h)]
      exact isR_semR y.2.1 y.2.2)
  have d₃ : Disjoint ((Finset.univ : Finset (Dev nD)).map prvTok ∪ Finset.univ.map nxtTok) (hops.map sendTok ∪ hops.map recvTok) := by
    rw [Finset.disjoint_union_left, Finset.disjoint_union_right, Finset.disjoint_union_right]
    refine ⟨⟨?_, ?_⟩, ?_, ?_⟩ <;>
      exact disjoint_map fun x y h => reg_ne_dma _ _ (congrArg (fun t : GSem nD τ sig × ℕ × Bool => t.1.2) h)
  unfold allToks
  rw [big_union d₃, big_union d₁, big_union d₂, BI.bigSep_map, BI.bigSep_map, BI.bigSep_map, BI.bigSep_map]
  unfold hops knocks toks
  simp only [Pipeline.bigSep_sigma, bigSep_sep']
  iintro ⟨⟨H1, H2⟩, H3, H4⟩
  isplitl [H1 H2]
  · isplitl [H1]; · iexact H1
    iexact H2
  isplitl [H3]; · iexact H3
  iexact H4

/-! ## The credits -/

/-- The credits a device waits with. -/
def creds (c : Dev nD) : CellTallies nD τ sig ℕ :=
  (∑ ch : Fin 8, ∑ h ∈ Finset.range (len ch), tallyAt (recvCell c ch h) h N) + tallyAt (barCell c) 0 2

/-- What all devices owe is what all devices wait for. -/
theorem owed_sum : (∑ d, O₀ d) = ∑ d, creds d := by
  have hr (s : Fin 8) : (∑ d : Dev nD, ∑ h ∈ Finset.range (len s), tallyAt (recvCell (tgt s d) s h) h N)
      = (∑ d : Dev nD, ∑ h ∈ Finset.range (len s), tallyAt (recvCell d s h) h N : CellTallies nD τ sig ℕ) :=
    Equiv.sum_comp (ring s) fun d => ∑ h ∈ Finset.range (len s), (tallyAt (recvCell d s h) h N : CellTallies nD τ sig ℕ)
  have hn : (∑ d : Dev nD, tallyAt (barCell (nxt d)) 0 1) = (∑ d : Dev nD, tallyAt (barCell d) 0 1 : CellTallies nD τ sig ℕ) :=
    Equiv.sum_comp (⟨nxt, prv, prv_nxt, nxt_prv⟩ : Dev nD ≃ Dev nD) fun d => (tallyAt (barCell d) 0 1 : CellTallies nD τ sig ℕ)
  have hp : (∑ d : Dev nD, tallyAt (barCell (prv d)) 0 1) = (∑ d : Dev nD, tallyAt (barCell d) 0 1 : CellTallies nD τ sig ℕ) :=
    Equiv.sum_comp (⟨prv, nxt, nxt_prv, prv_nxt⟩ : Dev nD ≃ Dev nD) fun d => (tallyAt (barCell d) 0 1 : CellTallies nD τ sig ℕ)
  have hc : (∑ d : Dev nD, owed d fun _ => 0) = ∑ d : Dev nD, ∑ s : Fin 8, ∑ h ∈ Finset.range (len s), (tallyAt (recvCell d s h) h N : CellTallies nD τ sig ℕ) := by
    unfold owed
    rw [Finset.sum_comm, Finset.sum_comm (s := (Finset.univ : Finset (Dev nD)))]
    exact Finset.sum_congr rfl fun s _ => by rw [← hr, ← Finset.range_eq_Ico]
  unfold O₀ creds
  rw [Finset.sum_add_distrib, Finset.sum_add_distrib, Finset.sum_add_distrib, hn, hp, hc, add_assoc, ← Finset.sum_add_distrib]
  exact congrArg _ (Finset.sum_congr rfl fun d _ => tallyAt_add (barCell d) 0 1 1)

theorem creds_at (d : Dev nD) (g : GSem nD τ sig) (h : creds d g ≠ 0) : g.1 = (d : Thread nD τ) := by
  by_contra hg
  refine h ?_
  unfold creds
  rw [Pi.add_apply, Finset.sum_apply, tallyAt_ne_cell (fun e => hg (congrArg Prod.fst e)) 0 2, add_zero]
  refine Finset.sum_eq_zero fun ch _ => ?_
  rw [Finset.sum_apply]
  exact Finset.sum_eq_zero fun k _ => tallyAt_ne_cell (fun e => hg (congrArg Prod.fst e)) k N

theorem credits_dealt (c : Dev nD) : (Pipeline.launchCred O₀ c : sProp 𝕄) ⊢ credits c := by
  rw [Pipeline.launchCred_of_sum O₀ creds owed_sum creds_at c]
  unfold creds credits dues due
  iintro H
  ihave H := (cred_add _ _).1 $$ H
  icases H with ⟨Hr, Hb⟩
  isplitl [Hb]; · iexact Hb
  ihave Hr := (Entails.of_eq (Pipeline.cred_finsetSum _ _)) $$ Hr
  simp only [Pipeline.cred_finsetSum]
  iexact Hr

/-! ## The launch -/

/-- The pipeline's copy of the ghost state, and the ring's. -/
def ringU : UR := launchOf barCells ownCells allToks
def u₀ : UU :=
  (initOf (Pipeline.cells (Pipeline.pin (pcfgs (F := F)) adm) Cert.KernelIdeal.Gen.cellOf_inj)
    (Pipeline.launchToks (Pipeline.pin (pcfgs (F := F)) adm) Cert.KernelIdeal.Gen.cellOf_inj), ringU)

/-- The ring's ghost state, all of it with device 0 until it is dealt. -/
def park (c : Dev nD) : sProp 𝕄 := if c = 0 then BI.own (ER ringU) else iprop(emp)

theorem park_all : bigSep Finset.univ (park (F := F)) = BI.own (ER ringU) := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park; rw [if_pos rfl]
  exact BI.equiv_iff.mp sep_emp

theorem unscoped_sems (c : Dev nD) : (unscopedSems0 c : sProp 𝕄) = semVal (barCell c) 0 := by
  unfold unscopedSems0
  rw [show (Finset.univ.filter fun sm : SemLoc sig => ¬ sm.isScoped .tc) = {SemLoc.reg (sig.barrier 0 rfl)} from by decide, BI.bigSep_singleton]

/-- What a device starts from. -/
def start (c : Dev nD) : sProp 𝕄 := iprop(StableHlo.held (c : Thread nD τ) bufs (V₀ m c) ∗ ride m c)
/-- What it ends with. -/
def finish (c : Dev nD) : sProp 𝕄 := iprop(StableHlo.held (c : Thread nD τ) bufs (V₂ m c) ∗ semVal (barCell c) 0)

/-- What of a device's holdings at launch is not the ring's ghost state. -/
def plain (c : Dev nD) : sProp 𝕄 :=
  iprop(StableHlo.held (c : Thread nD τ) bufs (V₀ m c) ∗ credits c ∗ owes (c : Thread nD τ) (O₀ c) ∅ ∗ ∃ r, prngReg c r)

theorem start_intro (K : GSem nD τ sig → ℕ) (c : Dev nD) : iprop(records (xs m) K ∗ (linear c ∗ plain m c)) ⊢ start m c := by
  unfold plain start ride Tk
  iintro ⟨#HR, Hl, Hh, Hc, HO, Hp⟩
  isplitl [Hh]; · iexact Hh
  isplitl [Hl Hc]
  · iexists K
    isplitr; · iexact HR
    isplitl [Hl]; · iexact Hl
    iexact Hc
  isplitl [Hp]; · iexact Hp
  iexists ∅; iexact HO

theorem plain_intro (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ park c)
      ⊢ (iprop(plain m c ∗ (semVal (barCell c) 0 ∗ park c)) : sProp 𝕄) := by
  rw [show unscopedBufs c (fun b => m ((c : Thread nD τ).loc b)) = StableHlo.held (c : Thread nD τ) bufs (V₀ m c) from unscopedBufs_held c (V₀ m c),
    unscoped_sems]
  unfold plain
  iintro ⟨Hh, Hus, HO, Hcr, Hp, HG⟩
  ihave Hc := (credits_dealt (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem bar_cells (Φ : GSem nD τ sig → sProp 𝕄) : bigSep barCells Φ = bigSep Finset.univ fun c : Dev nD => Φ (barCell c) :=
  BI.bigSep_map (s := Finset.univ) barEmb
theorem own_cells (Φ : GSem nD τ sig → sProp 𝕄) :
    bigSep ownCells Φ = bigSep Finset.univ fun p : Dev nD × (Fin 8 × Fin 4) => Φ ((p.1 : Thread nD τ), osem p.2) :=
  BI.bigSep_map (s := Finset.univ) cellEmb

/-- The records, out of what the funding leaves. -/
theorem records_dealt (X : Blocks F) (K : GSem nD τ sig → ℕ) :
    iprop((bigSep (barCells ∪ ownCells) fun g => cellInv ER (Rd X) (K g) g) ∗ (bigSep barCells fun g => reached ER g 0) ∗ levAts L lv)
      ⊢ (records X K : sProp 𝕄) := by
  rw [big_union disjoint_cells, bar_cells, bar_cells, own_cells]
  unfold records
  iintro ⟨⟨HIb, HIo⟩, Hr, HL⟩
  isplitl [HIo]; · iexact HIo
  isplitl [HIb]; · iexact HIb
  isplitl [Hr]; · iexact Hr
  iexact HL

/-- Every device's own part, out of what the funding leaves. -/
theorem linear_dealt :
    iprop((bigSep barCells fun g => atPos ER g 0 ∅ 0) ∗ (bigSep ownCells fun g => openTok ER g)
        ∗ bigSep allToks fun x => dutyTok ER x.1 x.2.1 x.2.2)
      ⊢ (bigSep Finset.univ fun c : Dev nD => linear c : sProp 𝕄) := by
  rw [bar_cells, own_cells, bigSep_univ_prod]
  unfold linear
  iintro ⟨Hat, Hop, Htok⟩
  iapply (big_pair (F := F)); isplitl [Hat]; · iexact Hat
  iapply (big_pair (F := F)); isplitl [Hop]; · iexact Hop
  iapply (big_pair (F := F))
  iapply (toks_dealt (F := F)); iexact Htok

/-- The funding: the invariants made, the records and every device's own part. -/
theorem fund (X : Blocks F) :
    iprop((bigSep Finset.univ fun c : Dev nD => semVal (barCell c) 0) ∗ BI.own (ER ringU) ∗ levAts L lv)
      ⊢ (|={Set.univ}=> ∃ K, records X K ∗ bigSep Finset.univ fun c : Dev nD => linear c : sProp 𝕄) := by
  rw [← bar_cells fun g => semVal g 0]
  unfold ringU
  iintro ⟨Hv, Hu, HL⟩
  imod (Rounds.fund_launch ER (Rd X) disjoint_cells (fun g _ h => h) allToks) $$ [Hv Hu] with ⟨%K, -, HI, Hr, Hat, Hop, Htok⟩
  · isplitl [Hv]; · iexact Hv
    iexact Hu
  imodintro
  iexists K
  isplitl [HI Hr HL]
  · iapply (records_dealt X K)
    isplitl [HI]; · iexact HI
    isplitl [Hr]; · iexact Hr
    iexact HL
  iapply (linear_dealt (F := F))
  isplitl [Hat]; · iexact Hat
  isplitl [Hop]; · iexact Hop
  iexact Htok

/-- The launch deals every device what it starts from. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ park c)) ∗ levAts L lv)
      ⊢ (|={Set.univ}=> bigSep Finset.univ (start m) : sProp 𝕄) := by
  iintro ⟨H, HL⟩
  ihave H := (big_mono (F := F) (fun c _ => plain_intro m ρ c)) $$ H
  ihave H := (big_unpair (F := F)) $$ H; icases H with ⟨HB, H⟩
  ihave H := (big_unpair (F := F)) $$ H; icases H with ⟨Hv, HG⟩
  ihave Hu := (Entails.of_eq (park_all (F := F))) $$ HG
  imod (fund (xs m)) $$ [Hv Hu HL] with ⟨%K, #HR, Hl⟩
  · isplitl [Hv]; · iexact Hv
    isplitl [Hu]; · iexact Hu
    iexact HL
  imodintro
  iapply (bigSep_with_persistent (R := records (xs m) K) (Φ := fun c => iprop(linear c ∗ plain m c)) fun c _ => start_intro m K c)
  isplitr; · iexact HR
  iapply (big_pair (F := F))
  isplitl [Hl]; · iexact Hl
  iexact HB

/-! ## The run -/

/-- The barrier is the only semaphore that outlives the kernel. -/
theorem unscoped_sem : ∀ sm : SemLoc sig, sm.isScoped .tc = false → sm = .reg (sig.barrier 0 rfl) := by decide

theorem mem_bufs : Proc.devRef .tc main_arg0 ∈ (bufs : Finset (DevRef τ sig)) ∧ Proc.devRef .tc main_arg1 ∈ (bufs : Finset (DevRef τ sig))
    ∧ Proc.devRef .tc main_arg2 ∈ (bufs : Finset (DevRef τ sig)) ∧ Proc.devRef .tc main_arg3 ∈ (bufs : Finset (DevRef τ sig))
    ∧ Proc.devRef .tc main_v6 ∈ (bufs : Finset (DevRef τ sig)) := by decide

/-- A buffer held at a valuation holds, in the machine's state, what the valuation says. -/
theorem held_read (c : Dev nD) (V : Valuation τ sig (Elt F)) (s : Phys nD τ sig (Elt F)) (b : Ref sig .tc)
    (hb : Proc.devRef .tc b ∈ (bufs : Finset (DevRef τ sig))) :
    iprop(StableHlo.held (c : Thread nD τ) bufs V ∗ SI s) ⊢ (iprop(⌜s.mem.mem ((c : Thread nD τ).loc b) = V b⌝) : sProp 𝕄) := by
  unfold StableHlo.held
  iintro ⟨H, HSI⟩
  ihave Hb := (big_elim (F := F) hb) $$ H
  icombine HSI Hb gives %hx
  ipureintro
  exact Buf.eq_of_forall_mem_univ hx

/-- What is read of a device's final state. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v6) = outs m c

/-- Two facts read of one state are read together. -/
theorem read_both {P : sProp 𝕄} {A B : Prop} (hA : P ⊢ iprop(⌜A⌝)) (hB : P ⊢ iprop(⌜B⌝)) : P ⊢ iprop(⌜A ∧ B⌝) :=
  fun x h => ⟨hA x h, hB x h⟩
/-- A fact read of a state leaves the state. -/
theorem read_keep {P : sProp 𝕄} {A : Prop} (hA : P ⊢ iprop(⌜A⌝)) : P ⊢ iprop(⌜A⌝ ∗ P) :=
  Laws.entails_trans (BI.and_intro hA (BI.Entails.refl _)) (BI.pure_elim fun h => (show P ⊢ iprop(⌜A⌝ ∗ P) from by
    iintro H
    isplitr; · ipureintro; exact h
    iexact H))

theorem V₁_arg (c : Dev nD) : V₁ m c main_arg0 = m ((c : Thread nD τ).loc main_arg0) ∧ V₁ m c main_arg1 = m ((c : Thread nD τ).loc main_arg1)
    ∧ V₁ m c main_arg2 = m ((c : Thread nD τ).loc main_arg2) ∧ V₁ m c main_arg3 = m ((c : Thread nD τ).loc main_arg3) :=
  ⟨Cert.KernelIdeal.Gen.V_main_arg0 m c, Cert.KernelIdeal.Gen.V_main_arg1 m c, Cert.KernelIdeal.Gen.V_main_arg2 m c, Cert.KernelIdeal.Gen.V_main_arg3 m c⟩

theorem ends_read (c : Dev nD) (s : Phys nD τ sig (Elt F)) :
    iprop(StableHlo.held (c : Thread nD τ) bufs (V₂ m c) ∗ SI s) ⊢ (iprop(⌜Ends m c s.mem⌝) : sProp 𝕄) := by
  have hr (b : Ref sig .tc) (hb : Proc.devRef .tc b ∈ (bufs : Finset (DevRef τ sig))) (hn : Proc.devRef (τ := τ) .tc b ≠ Proc.devRef .tc main_v6)
      (hm : V₁ m c b = m ((c : Thread nD τ).loc b)) :
      iprop(StableHlo.held (c : Thread nD τ) bufs (V₂ m c) ∗ SI s) ⊢ (iprop(⌜s.mem.mem ((c : Thread nD τ).loc b) = m ((c : Thread nD τ).loc b)⌝) : sProp 𝕄) := by
    rw [← hm, ← V₂_of_ne m c _ hn]
    exact held_read (F := F) c (V₂ m c) s b hb
  have ho : iprop(StableHlo.held (c : Thread nD τ) bufs (V₂ m c) ∗ SI s)
      ⊢ (iprop(⌜s.mem.mem ((c : Thread nD τ).loc main_v6) = outs m c⌝) : sProp 𝕄) := by
    rw [← V₂_out m c]
    exact held_read (F := F) c (V₂ m c) s main_v6 mem_bufs.2.2.2.2
  obtain ⟨h0, h1, h2, h3, -⟩ := mem_bufs
  obtain ⟨e0, e1, e2, e3⟩ := V₁_arg m c
  exact read_both (read_both (hr _ h0 (by decide) e0) (read_both (hr _ h1 (by decide) e1)
    (read_both (hr _ h2 (by decide) e2) (hr _ h3 (by decide) e3)))) ho

theorem finish_read (c : Dev nD) (s : Phys nD τ sig (Elt F)) :
    iprop(finish m c ∗ SI s) ⊢ (|={Set.univ}=> iprop(⌜Ends m c s.mem ∧ s.mem.sem (barCell c) = 0⌝ ∗ SI s) : sProp 𝕄) := by
  unfold finish
  iintro ⟨⟨Hh, Hb⟩, HSI⟩
  icombine HSI Hb gives %hb
  ihave H := (read_keep (ends_read m c s)) $$ [Hh HSI]
  · isplitl [Hh]; · iexact Hh
    iexact HSI
  icases H with ⟨%h, -, HSI⟩
  imodintro
  isplitr
  · ipureintro
    exact ⟨h, by simpa using hb⟩
  iexact HSI

set_option backward.isDefEq.respectTransparency.types false in
/-- From any memory with zero counters, every fair run of the program on all devices ends; every final state has each
    device's arguments unchanged, its result the tiles of all devices' blocks, and every counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) 0 Cert.KernelIdeal.Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := park) (u₀ := u₀)
    (hu₀ := by
      unfold u₀
      iintro Hu
      ihave H := (ownU_pair _ _) $$ Hu
      icases H with ⟨HP, HX⟩
      imodintro
      isplitl [HP]; · iexact HP
      rw [park_all]; iexact HX)
    (T₀ := start m) (Tₙ := finish m)
    (hch := by
      refine ⟨fun c => .rfl, fun c => reg0_pre m c, fun c => (reg0_post m c).trans ?_⟩
      unfold finish
      iintro ⟨Hh, Hb, HO⟩
      isplitr [HO]
      · isplitl [Hh]; · iexact Hh
        iexact Hb
      · iexact HO)
    (hinit := launch m ρ)
    (QY := fun c s => Ends m c s ∧ s.sem (barCell c) = 0)
    (hfin := fun c s => finish_read m c s)
    (hQ := fun s h hs => ⟨fun c => (h c).1,
      sem_eq_zero hs fun c sm hsm => by
        obtain rfl := unscoped_sem sm hsm
        exact (h c).2⟩)

end Cert.Proof.Run
end
-- ==== Proof.Words.lean ====
/-
  What the host operations hand the kernel.

  The host packs four neighbouring bytes of a row into one word, and regroups the rows of the weights by their number
  modulo four, so that byte `j` of word `q` meets row `q` of the `j`-th quarter of the regrouped weights.
-/
module

public import proofs.«01_k».proof.Proof.Data
public import Idealize.ShloMosaic.Lib.BitcastConvert
public import Idealize.ShloMosaic.Lib.Pointwise
public import Idealize.ShloMosaic.Lib.Claim

@[expose] public section

noncomputable section

namespace Cert.Proof.Run

open Cert.KernelIdeal
open Cert.KernelIdeal.Facts₀ Cert.KernelIdeal.Facts
open Idealize.ShloMosaic
open Idealize.ShloMosaic.TcCoe

variable {F : FTy → Type} [FloatOps F]

variable (m : (ℓ : Loc nD τ sig) → Buf (Elt F) ℓ)

/-- The column of the bytes, and the row of the weights, that part `j` of position `q` comes from. -/
def col (j : Fin 4) (q : Fin 1024) : Fin 4096 := ⟨4 * q.val + j.val, by omega⟩
/-- The row of the regrouped weights that position `q` of quarter `j` is. -/
def regrouped (j : Fin 4) (q : Fin 1024) : Fin 4096 := ⟨1024 * j.val + q.val, by omega⟩

/-- The packed block is the bytes of the argument, four neighbours of a row to a word. -/
theorem xs_eq (c : Dev nD) : xs m c = Host.bitcastConvertWiden S256x1024 32
    (shapeCast S256x1024x4 (m ((c : Thread nD τ).loc main_arg0)) shapeCasts_S256x4096_S256x1024x4) splits_S256x1024_w32_S256x1024x4_w8 := by
  unfold xs
  entry_read
  rfl

/-- The regrouped weights are the argument's rows in the order of their number modulo four. -/
theorem ws_eq (c : Dev nD) : ws m c = shapeCast S4096x128 (transpose S4x1024x128 [1, 0, 2]
    (shapeCast S1024x4x128 (m ((c : Thread nD τ).loc main_arg1)) shapeCasts_S4096x128_S1024x4x128)
    transposes_S1024x4x128_S4x1024x128_1_0_2) shapeCasts_S4x1024x128_S4096x128 := by
  unfold ws
  entry_read
  rfl

/-- Part `j` of a packed word, shifted down and cut to eight bits, is the byte it was packed from. -/
theorem byte_of_word (c : Dev nD) (r : Fin 256) (q : Fin 1024) (j : Fin 4) :
    BitVec.setWidth 8 ((xs m c (ix2 r q) : BitVec 32) >>> (8 * j.val)) = m ((c : Thread nD τ).loc main_arg0) (ix2 r (col j q)) := by
  rw [xs_eq]
  apply BitVec.eq_of_getLsbD_eq
  intro b hb
  have hj := j.isLt
  rw [BitVec.getLsbD_setWidth, BitVec.getLsbD_ushiftRight, Host.bitcastConvertWiden_getLsbD _ _ _ _ _ _ (by omega)]
  have e1 : (8 * j.val + b) / 8 = j.val := by omega
  have e2 : (8 * j.val + b) % 8 = b := by omega
  rw [e2]
  generalize m ((c : Thread nD τ).loc main_arg0) = x
  have hi : Shape.reshapeEquiv shapeCasts_S256x4096_S256x1024x4
      (splits_S256x1024_w32_S256x1024x4_w8.snoc (ix2 r q) ⟨(8 * j.val + b) / 8, splits_S256x1024_w32_S256x1024x4_w8.div_lt (by omega)⟩)
      = ix2 r (col j q) := by
    refine Shape.reshapeEquiv_eq_of_rowMajor _ ?_
    rw [Shape.rowMajor_val_two, Shape.rowMajor_val_three]
    show r.val * 4096 + (4 * q.val + j.val) = (r.val * 1024 + q.val) * 4 + (8 * j.val + b) / 8
    omega
  unfold shapeCast
  rw [hi, decide_eq_true hb, Bool.true_and]

/-- A row of the regrouped weights is the row of the weights it was taken from. -/
theorem row_regrouped (c : Dev nD) (j : Fin 4) (q : Fin 1024) (l : Fin 128) :
    ws m c (ix2 (regrouped j q) l) = m ((c : Thread nD τ).loc main_arg1) (ix2 (col j q) l) := by
  rw [ws_eq]
  generalize m ((c : Thread nD τ).loc main_arg1) = x
  have h1 : Shape.reshapeEquiv shapeCasts_S4x1024x128_S4096x128 (ix2 (regrouped j q) l) = ix3 j q l := by
    refine Shape.reshapeEquiv_eq_of_rowMajor _ ?_
    rw [Shape.rowMajor_val_two, Shape.rowMajor_val_three]
    show (j.val * 1024 + q.val) * 128 + l.val = (1024 * j.val + q.val) * 128 + l.val
    omega
  have h2 : Shape.reshapeEquiv shapeCasts_S4096x128_S1024x4x128 (transposes_S1024x4x128_S4x1024x128_1_0_2.src (ix3 j q l))
      = ix2 (col j q) l := by
    refine Shape.reshapeEquiv_eq_of_rowMajor _ ?_
    rw [Shape.rowMajor_val_two, Shape.rowMajor_val_three]
    show (4 * q.val + j.val) * 128 + l.val = (q.val * 4 + j.val) * 128 + l.val
    omega
  unfold shapeCast transpose
  rw [h1]
  show x (Shape.reshapeEquiv _ _) = _
  rw [h2]

end Cert.Proof.Run

end
-- ==== Proof.Product.lean ====
/-
  The kernel's result over the extended reals.

  Four byte planes of the packed rows, each times its quarter of the regrouped weights, add up to the product of the
  rows of bytes with the weights: the four sums are one sum over all columns, taken in another order.
-/
module

public import proofs.«01_k».proof.Proof.Words
public import Idealize.ShloMosaic.Lib.MatmulPlain

@[expose] public section

noncomputable section

namespace Cert.Proof.Run

open Cert.KernelIdeal
open Cert.KernelIdeal.Facts₀ Cert.KernelIdeal.Facts
open Idealize.ShloMosaic
open Idealize.ShloMosaic.TcCoe
open scoped BigOperators

/-- The number a byte spells as a float8 word. -/
abbrev fp8 (b : BitVec 8) : EReal := (FloatOps.ofBits .fp8e4m3 b : Ideal .fp8e4m3)

/-- Row `x` of bytes times column `y` of the weights, scaled. -/
def dotV (x : Fin 4096 → BitVec 8) (y : Fin 4096 → EReal) (s : EReal) : EReal := (∑ k, fp8 (x k) * y k) * s

/-! ## One sum in four parts -/

/-- Position and part number the columns. -/
def colEquiv : Fin 1024 × Fin 4 ≃ Fin 4096 where
  toFun p := col p.2 p.1
  invFun k := (⟨k.val / 4, by omega⟩, ⟨k.val % 4, by omega⟩)
  left_inv := fun ⟨q, j⟩ => Prod.ext (Fin.ext (by show (4 * q.val + j.val) / 4 = q.val; omega)) (Fin.ext (by show (4 * q.val + j.val) % 4 = j.val; omega))
  right_inv k := Fin.ext (by show 4 * (k.val / 4) + k.val % 4 = k.val; omega)

/-- The four parts of a sum over the columns, added in turn, are the sum. -/
theorem sum_parts (f : Fin 4096 → EReal) :
    (((∑ q, f (col 0 q)) + ∑ q, f (col 1 q)) + ∑ q, f (col 2 q)) + ∑ q, f (col 3 q) = ∑ k, f k := by
  rw [← Equiv.sum_comp colEquiv f, Fintype.sum_prod_type_right, Fin.sum_univ_four]
  rfl

/-! ## One plane -/

/-- A byte plane of `M` packed rows times a quarter of the weights. -/
def plane {M : ℕ} (v : IVec ⟨2, ![M, 1024]⟩ 32) (sh : BitVec 32) (w : Vec Ideal S1024x128 .fp8e4m3) : FVec Ideal ⟨2, ![M, 128]⟩ .f32 :=
  matmul (φ₁ := .fp8e4m3) (φ₂ := .fp8e4m3) (DotDims.plain M 1024 128) none (bitcastToFloat .fp8e4m3 (trunci 8 (shrui v (broadcast _ sh)) natLt_8_32)) w
    (constant ⟨2, ![M, 128]⟩ .f32 0x00000000#32)

/-- The body's product of a plane of 64 rows is `plane`. -/
theorem mm64_eq (v : IVec S64x1024 32) (sh : BitVec 32) (w : Vec Ideal S1024x128 .fp8e4m3) : mm64 (F := Ideal) v sh w = plane v sh w := by
  unfold mm64
  rw [shapeCast_id]
  rfl
/-- The body's product of a plane of 256 rows is `plane`. -/
theorem mm256_eq (v : IVec S256x1024 32) (sh : BitVec 32) (w : Vec Ideal S1024x128 .fp8e4m3) : mm256 (F := Ideal) v sh w = plane v sh w := by
  unfold mm256
  rw [shapeCast_id]
  rfl

/-- The quarter of the weights from row `o`, read at an index. -/
theorem wq_apply (w : Vec Ideal S4096x128 .fp8e4m3) (o : ℕ) (ho) (q : Fin 1024) (l : Fin 128) (k : Fin 4096) (hk : k.val = o + q.val) :
    wq w o ho (ValueIdx.ix2 q l) = w (ix2 k l) := by
  unfold wq
  show w _ = w _
  refine congrArg w (funext fun a => Fin.ext ?_)
  match a with
  | 0 => show o + 1 * q.val = k.val; omega
  | 1 => show 0 + 1 * l.val = l.val; omega

/-- The plane of part `j` is part `j` of the product, when the packed row is packed from the bytes `x` and the weights are
    regrouped from the column `y`. -/
theorem plane_apply {M : ℕ} (v : IVec ⟨2, ![M, 1024]⟩ 32) (w : Vec Ideal S4096x128 .fp8e4m3) (x : Fin 4096 → BitVec 8) (y : Fin 4096 → EReal)
    (r : Fin M) (l : Fin 128) (j : Fin 4) (o : ℕ) (ho) (hoj : o = 1024 * j.val) (sh : BitVec 32) (hsh : sh.toNat = 8 * j.val)
    (hv : ∀ q, BitVec.setWidth 8 ((v (ValueIdx.ix2 r q) : BitVec 32) >>> (8 * j.val)) = x (col j q))
    (hw : ∀ q, w (ix2 (regrouped j q) l) = y (col j q)) :
    plane v sh (wq w o ho) (ValueIdx.ix2 r l) = ∑ q, fp8 (x (col j q)) * y (col j q) := by
  unfold plane Idealize.ShloMosaic.matmul

  rw [Ideal.matmul_plain_apply]
  have h0 : (constant ⟨2, ![M, 128]⟩ .f32 0x00000000#32 : FVec Ideal ⟨2, ![M, 128]⟩ .f32) (ValueIdx.ix2 r l) = 0 := Ideal.ofBits_zero_f32
  rw [h0, zero_add]
  refine Finset.sum_congr rfl fun q _ => ?_
  rw [wq_apply w o ho q l (regrouped j q) (by show 1024 * j.val + q.val = _; omega), hw q]
  refine congrArg (· * y (col j q)) ?_
  show fp8 (BitVec.setWidth 8 (IntOp.shrui .vector (v (ValueIdx.ix2 r q)) sh)) = _
  have hj := j.isLt
  rw [← hv q, IntOp.shrui, if_pos (by omega), BitVec.ushiftRight_eq', hsh]

/-- The four planes added in turn and scaled are the scaled product. -/
theorem planes_apply {M : ℕ} (v : IVec ⟨2, ![M, 1024]⟩ 32) (w : Vec Ideal S4096x128 .fp8e4m3) (s : EReal) (x : Fin 4096 → BitVec 8)
    (y : Fin 4096 → EReal) (r : Fin M) (l : Fin 128)
    (hv : ∀ j q, BitVec.setWidth 8 ((v (ValueIdx.ix2 r q) : BitVec 32) >>> (8 * (j : Fin 4).val)) = x (col j q))
    (hw : ∀ j q, w (ix2 (regrouped j q) l) = y (col j q)) :
    mulf (addf (addf (addf (plane v 0#32 (wq w 0 inb_S4096x128_S1024x128_0_0)) (plane v 8#32 (wq w 1024 inb_S4096x128_S1024x128_1024_0)))
      (plane v 16#32 (wq w 2048 inb_S4096x128_S1024x128_2048_0))) (plane v 24#32 (wq w 3072 inb_S4096x128_S1024x128_3072_0)))
      (broadcast ⟨2, ![M, 128]⟩ (s : Ideal .f32)) (ValueIdx.ix2 r l) = dotV x y s := by
  have hp := fun (j : Fin 4) (o : ℕ) ho hoj (sh : BitVec 32) hsh => plane_apply v w x y r l j o ho hoj sh hsh (hv j) (hw j)
  unfold dotV
  rw [← sum_parts]
  show (((plane v _ _ (ValueIdx.ix2 r l) + plane v _ _ (ValueIdx.ix2 r l)) + plane v _ _ (ValueIdx.ix2 r l)) + plane v _ _ (ValueIdx.ix2 r l)) * s = _
  rw [hp 0 0 _ rfl _ rfl, hp 1 1024 _ rfl _ rfl, hp 2 2048 _ rfl _ rfl, hp 3 3072 _ rfl _ rfl]

/-! ## The result of a device -/

variable (m : (ℓ : Loc nD τ sig) → Buf (Elt Ideal) ℓ)

/-- The row of bytes that gives row `r` of the result: the devices' rows one after another. -/
def rowBytes (r : Fin 4096) (k : Fin 4096) : BitVec 8 :=
  m (((⟨r.val / 256, by show _ < 16; omega⟩ : Dev nD) : Thread nD τ).loc main_arg0) (ix2 (⟨r.val % 256, by omega⟩ : Fin 256) k)
/-- A column of a device's weights. -/
def colWeights (c : Dev nD) (l : Fin 128) (k : Fin 4096) : EReal := m ((c : Thread nD τ).loc main_arg1) (ix2 k l)
/-- The product of a device's two scales. -/
def scaleOf (c : Dev nD) : EReal := scaleV (F := Ideal) (m ((c : Thread nD τ).loc main_arg2)) (m ((c : Thread nD τ).loc main_arg3))

/-- Every device's result is its rows of bytes, all of them, times its columns of weights, scaled. -/
theorem outs_apply (c : Dev nD) (r : Fin 4096) (l : Fin 128) :
    outs m c (ix2 r l) = dotV (rowBytes m r) (colWeights m c l) (scaleOf m c) := by
  have hs : scs m c = scaleOf m c := by
    unfold scs scaleOf
    rw [Cert.KernelIdeal.Gen.V_main_arg2, Cert.KernelIdeal.Gen.V_main_arg3]
  have hw : ∀ j q, ws m c (ix2 (regrouped j q) l) = colWeights m c l (col j q) := fun j q => row_regrouped m c j q l
  have ho : owner (ix2 r l) = ⟨r.val / 256, by show _ < 16; omega⟩ := rfl
  unfold outs outV
  rw [hs]
  split
  · rename_i hc
    unfold ownV tile256
    simp only [mm256_eq, shapeCast_id]
    have hi : rowIn 256 (by decide) (ix2 r l) = ValueIdx.ix2 (⟨r.val % 256, by omega⟩ : Fin 256) l :=
      funext fun a => by match a with | 0 => rfl | 1 => rfl
    rw [hi]
    refine planes_apply _ _ _ _ _ _ _ (fun j q => ?_) hw
    have hx : xq (xs m c) (ValueIdx.ix2 (⟨r.val % 256, by omega⟩ : Fin 256) q) = xs m c (ix2 (⟨r.val % 256, by omega⟩ : Fin 256) q) := by
      unfold xq
      refine congrArg (xs m c) (funext fun a => Fin.ext ?_)
      match a with
      | 0 => show 0 + 1 * (r.val % 256) = r.val % 256; omega
      | 1 => show 0 + 1 * q.val = q.val; omega
    rw [hx, byte_of_word, ← hc, ho]
    rfl
  · unfold tileV
    simp only [mm64_eq]
    have hi : rowIn 64 (by decide) (ix2 r l) = ValueIdx.ix2 (⟨r.val % 64, by omega⟩ : Fin 64) l :=
      funext fun a => by match a with | 0 => rfl | 1 => rfl
    rw [hi]
    refine planes_apply _ _ _ _ _ _ _ (fun j q => ?_) hw
    have hx : gv (xs m) (owner (ix2 r l)) (((ix2 r l : S4096x128.Idx) 0).val / 64) (ValueIdx.ix2 (⟨r.val % 64, by omega⟩ : Fin 64) q)
        = xs m (owner (ix2 r l)) (ix2 (⟨r.val % 256, by omega⟩ : Fin 256) q) := by
      unfold gv
      refine congrArg (xs m _) (funext fun a => Fin.ext ?_)
      match a with
      | 0 => show 64 * (r.val / 64 % 4) + 1 * (r.val % 64) = r.val % 256; omega
      | 1 => show 0 + 1 * q.val = q.val; omega
    rw [hx, byte_of_word, ho]
    rfl

end Cert.Proof.Run

end
-- ==== Proof.Whole.lean ====
/-
  The reference's result, index by index.
-/
module

public import proofs.«01_k».proof.Proof.Gen.ReferenceIdeal.Value
public import Idealize.ShloMosaic.Lib.Pipeline.ValueKit
public import Idealize.ShloMosaic.Lib.Pipeline.ReadBack
public import proofs.«01_k».proof.Proof.Product

@[expose] public section

noncomputable section

namespace Cert.Proof.Whole

open Cert.ReferenceIdeal
open Cert.ReferenceIdeal.Facts₀ Cert.ReferenceIdeal.Facts
open Cert.ReferenceIdeal.Gen (dats iblk V)
open Cert.Proof.Run (fp8 dotV scaleV)
open Idealize.ShloMosaic
open Idealize.ShloMosaic.TcCoe
open Idealize.SL.Sem
open Idealize.ShloMosaic.Pipeline (Dat)
open scoped BigOperators

variable (m : (ℓ : Loc nD τ sig) → Buf (Elt Ideal) ℓ) (ρ : Dev nD → PrngReg)

/-- A row of the reference's bytes. -/
def wholeRow (c : Dev nD) (r : Fin 4096) (k : Fin 4096) : BitVec 8 := m ((c : Thread nD τ).loc main_arg0) (ix2 r k)
/-- A column of the reference's weights. -/
def wholeCol (c : Dev nD) (l : Fin 2048) (k : Fin 4096) : EReal := m ((c : Thread nD τ).loc main_arg1) (ix2 k l)
/-- The product of the reference's two scales. -/
def wholeScale (c : Dev nD) : EReal := scaleV (F := Ideal) (m ((c : Thread nD τ).loc main_arg2)) (m ((c : Thread nD τ).loc main_arg3))

/-- The reference's result: a row of the bytes times a column of the weights, scaled. -/
def wholeV (c : Dev nD) : Vec Ideal S4096x2048 .f32 := fun i => dotV (wholeRow m c (i 0)) (wholeCol m c (i 1)) (wholeScale m c)

/-- What the reference's body computes from its loads, read at an index. -/
theorem pay_apply (x : Vec Ideal S4096x4096 .i8) (w : Vec Ideal S4096x2048 .fp8e4m3) (a b : EReal) (y : S4096x2048.Idx) :
    Gen.k0_pay1 (F := Ideal) x w a b y = dotV (fun k => x (ix2 (y 0) k)) (fun k => w (ix2 k (y 1))) (a * b) := by
  have hm := Ideal.matmul_plain_apply (φ₁ := .fp8e4m3) (φ₂ := .fp8e4m3) (M := 4096) (K := 4096) (N := 2048) none
    (bitcastToFloat .fp8e4m3 x) w (constant S4096x2048 .f32 0x00000000#32) (y 0) (y 1)
  have h0 : (constant S4096x2048 .f32 0x00000000#32 : FVec Ideal S4096x2048 .f32) (ValueIdx.ix2 (y 0) (y 1)) = 0 := Ideal.ofBits_zero_f32
  rw [h0, zero_add] at hm
  refine (congrArg (Gen.k0_pay1 (F := Ideal) x w a b) (ValueIdx.eq_ix2 (n0 := 4096) (n1 := 2048) y)).trans ?_
  exact congrArg (· * (a * b)) hm

/-! A window is its whole array. -/

theorem read_x (c : Dev nD) (t : Fin cfg0.N) : iblk m c 0 t = m ((c : Thread nD τ).loc main_arg0) := by
  funext y
  refine Eq.trans ?_ (congrFun (Gen.V_main_arg0 m c) y)
  show V m c main_arg0 _ = V m c main_arg0 y
  exact congrArg _ (funext fun a => Fin.ext (Pipeline.Window.rect_emb_val_of_index_zero win0_0 t a rfl y))
theorem read_w (c : Dev nD) (t : Fin cfg0.N) : iblk m c 1 t = m ((c : Thread nD τ).loc main_arg1) := by
  funext y
  refine Eq.trans ?_ (congrFun (Gen.V_main_arg1 m c) y)
  show V m c main_arg1 _ = V m c main_arg1 y
  exact congrArg _ (funext fun a => Fin.ext (Pipeline.Window.rect_emb_val_of_index_zero win0_1 t a rfl y))
theorem read_a (c : Dev nD) (t : Fin cfg0.N) : iblk m c 2 t = m ((c : Thread nD τ).loc main_arg2) := by
  funext y
  refine Eq.trans ?_ (congrFun (Gen.V_main_arg2 m c) y)
  show V m c main_arg2 _ = V m c main_arg2 y
  exact congrArg _ (funext fun a => Fin.ext (Pipeline.Window.rect_emb_val_of_index_zero win0_2 t a rfl y))
theorem read_b (c : Dev nD) (t : Fin cfg0.N) : iblk m c 3 t = m ((c : Thread nD τ).loc main_arg3) := by
  funext y
  refine Eq.trans ?_ (congrFun (Gen.V_main_arg3 m c) y)
  show V m c main_arg3 _ = V m c main_arg3 y
  exact congrArg _ (funext fun a => Fin.ext (Pipeline.Window.rect_emb_val_of_index_zero win0_3 t a rfl y))

/-- The reference's result array at the end of its run. -/
theorem arr_out (c : Dev nD) : (dats m 0 c).arrAt 4 cfg0.N = wholeV m c := by
  refine (dats m 0 c).arrAt_eq_of_covers 4 _ (by decide +kernel) fun t hf y => ?_
  blk_simp
  rw [Gen.after0_4]
  unfold Gen.outsAt0
  frame_out
  simp only [read_unread_whole]
  rw [read_x, read_w, read_a, read_b]
  have hy : ((View.whole main_v0).slice (win0_4.rect t)).emb y = y :=
    funext fun a => Fin.ext (Pipeline.Window.rect_emb_val_of_index_zero win0_4 t a rfl y)
  rw [hy]
  refine (pay_apply _ _ _ _ y).trans ?_
  unfold wholeV wholeScale scaleV
  rw [Cert.Proof.Run.only_eq (Shape.Idx.first _)]
  rfl

end Cert.Proof.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The two printed programs are the same program, so a run of one is a run of the other. -/
theorem run_same (m : (ℓ : Loc nD τ sig) → Buf (Elt Bits) ℓ) (ρ : Dev nD → PrngReg) (Q : PUnit × MemSt nD τ sig (Elt Bits) → Prop) :
    θ_run (Cert.KernelIdeal.defs (F := Bits)) (onTc (τ := Cert.KernelIdeal.τ) (Cert.KernelIdeal.main (F := Bits))) ⟨m, fun _ => 0, ρ⟩ Q
      = θ_run (Cert.Kernel.defs (F := Bits)) (onTc (τ := Cert.Kernel.τ) (Cert.Kernel.main (F := Bits))) ⟨m, fun _ => 0, ρ⟩ Q := by
  chain_rfl

/-- The kernel as printed ends with its arguments unchanged and every counter at zero. -/
theorem frame_kernel : Cert.quiescent_Kernel := fun m ρ _ => by
  rw [← run_same]
  exact (θ_run Cert.KernelIdeal.defs _ _).mono (fun _ h => ⟨fun c => (h.1 c).1, h.2⟩) (Cert.Proof.Run.run_main (F := Bits) m ρ)

/-- So does the kernel over the extended reals. -/
theorem frame_ideal : Cert.quiescent_KernelIdeal := fun m ρ _ =>
  (θ_run Cert.KernelIdeal.defs _ _).mono (fun _ h => ⟨fun c => (h.1 c).1, h.2⟩) (Cert.Proof.Run.run_main (F := Ideal) m ρ)

/-- Each device's result is its block of columns of the reference's result, when the devices' arguments are their blocks
    of the reference's arguments. -/
theorem outs_block (m : (ℓ : Loc nD τ Cert.KernelIdeal.sig) → Buf (Elt Ideal) ℓ)
    (m' : (ℓ : Loc Cert.ReferenceIdeal.nD Cert.ReferenceIdeal.τ Cert.ReferenceIdeal.sig) → Buf (Elt Ideal) ℓ)
    (h0 : ∀ d : Dev nD, m ((d.tc : Thread nD τ).loc Cert.KernelIdeal.main_arg0) = Layout.block ⟨2, ![256, 4096]⟩ ⟨2, ![4096, 4096]⟩ 0 16 d
      (m' (((0 : Dev Cert.ReferenceIdeal.nD).tc : Thread Cert.ReferenceIdeal.nD Cert.ReferenceIdeal.τ).loc Cert.ReferenceIdeal.main_arg0)))
    (c : Dev nD)
    (h1 : m ((c.tc : Thread nD τ).loc Cert.KernelIdeal.main_arg1) = Layout.block ⟨2, ![4096, 128]⟩ ⟨2, ![4096, 2048]⟩ 1 16 c
      (m' (((0 : Dev Cert.ReferenceIdeal.nD).tc : Thread Cert.ReferenceIdeal.nD Cert.ReferenceIdeal.τ).loc Cert.ReferenceIdeal.main_arg1)))
    (h2 : m ((c.tc : Thread nD τ).loc Cert.KernelIdeal.main_arg2)
      = m' (((0 : Dev Cert.ReferenceIdeal.nD).tc : Thread Cert.ReferenceIdeal.nD Cert.ReferenceIdeal.τ).loc Cert.ReferenceIdeal.main_arg2))
    (h3 : m ((c.tc : Thread nD τ).loc Cert.KernelIdeal.main_arg3)
      = m' (((0 : Dev Cert.ReferenceIdeal.nD).tc : Thread Cert.ReferenceIdeal.nD Cert.ReferenceIdeal.τ).loc Cert.ReferenceIdeal.main_arg3)) :
    Run.outs m c = Layout.block ⟨2, ![4096, 128]⟩ ⟨2, ![4096, 2048]⟩ 1 16 c (Whole.wholeV m' 0) := by
  funext i
  have hi : i = ix2 (i 0) (i 1) := ValueIdx.eq_ix2 (n0 := 4096) (n1 := 128) i
  rw [hi]
  refine (Run.outs_apply m c (i 0) (i 1)).trans ?_
  have hr : (i 0).val < 4096 := (i 0).isLt
  have hl : (i 1).val < 128 := (i 1).isLt
  have hc : c.val < 16 := c.isLt
  have ex : Run.rowBytes m (i 0) = Whole.wholeRow m' 0 (i 0) := funext fun k => by
    unfold Run.rowBytes Whole.wholeRow
    rw [h0]
    refine congrArg (m' _) (funext fun a => Fin.ext ?_)
    match a with
    | 0 => show (i 0).val / 256 * 256 + (i 0).val % 256 = (i 0).val; omega
    | 1 => rfl
  have ew : Run.colWeights m c (i 1) = Whole.wholeCol m' 0 ⟨c.val * 128 + (i 1).val, by omega⟩ := funext fun k => by
    unfold Run.colWeights Whole.wholeCol
    rw [h1]
    exact congrArg (m' _) (funext fun a => by match a with | 0 => rfl | 1 => rfl)
  have es : Run.scaleOf m c = Whole.wholeScale m' 0 := by
    unfold Run.scaleOf Whole.wholeScale
    rw [h2, h3]
  rw [ex, ew, es]
  rfl

/-- Over the extended reals the kernel computes the reference: every device ends with its block of the columns of the
    product of the whole matrices, scaled. -/
theorem algebraic : Cert.algebraic_KernelIdeal_ReferenceIdeal := fun m ρ m' ρ' _ h =>
  ⟨Whole.wholeV m' 0,
    (θ_run Cert.KernelIdeal.defs _ _).mono (fun _ hr c =>
      ⟨(hr.1 c).2.trans (outs_block m m' (fun d => (h d).1) c (h c).2.1 (h c).2.2.1 (h c).2.2.2), (hr.1 c).1⟩) (Run.run_main (F := Ideal) m ρ),
    (θ_run Cert.ReferenceIdeal.defs _ _).mono (fun _ hr => ⟨(hr 0).1.trans (Whole.arr_out m' 0), (hr 0).2⟩)
      (Cert.ReferenceIdeal.Value.run_blocks m' ρ')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
